-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rstd_nonneg_finite [hPre_rstd_nonneg_finite : Cert.Pre_rstd_nonneg_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rstd_nonneg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rstd_nonneg_finite [hPre_rstd_nonneg_finite : Cert.Pre_rstd_nonneg_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rstd_nonneg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_rstd_nonneg_finite [hKernelIdeal : Cert.KernelIdeal.Facts] [hPre_rstd_nonneg_finite : Cert.Pre_rstd_nonneg_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rstd_nonneg_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_rstd_nonneg_finite [hReferenceIdeal : Cert.ReferenceIdeal.Facts] [hPre_rstd_nonneg_finite : Cert.Pre_rstd_nonneg_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rstd_nonneg_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_rstd_nonneg_finite [hKernelIdeal : Cert.KernelIdeal.Facts] [hReferenceIdeal : Cert.ReferenceIdeal.Facts] [hPre_rstd_nonneg_finite : Cert.Pre_rstd_nonneg_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rstd_nonneg_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v7_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_v93) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_rstd_nonneg_finite : Cert.Pre_rstd_nonneg_finite.Facts),
    quiescent_Kernel (hKernel := hKernel)
    ∧ quiescent_KernelIdeal (hKernelIdeal := hKernelIdeal)
    ∧ quiescent_KernelIdeal_pre_rstd_nonneg_finite (hKernelIdeal := hKernelIdeal) (hPre_rstd_nonneg_finite := hPre_rstd_nonneg_finite)
    ∧ quiescent_ReferenceIdeal (hReferenceIdeal := hReferenceIdeal)
    ∧ quiescent_ReferenceIdeal_pre_rstd_nonneg_finite (hReferenceIdeal := hReferenceIdeal) (hPre_rstd_nonneg_finite := hPre_rstd_nonneg_finite)
    ∧ preserves_Kernel_KernelIdeal
    ∧ algebraic_KernelIdeal_ReferenceIdeal_pre_rstd_nonneg_finite (hKernelIdeal := hKernelIdeal) (hReferenceIdeal := hReferenceIdeal) (hPre_rstd_nonneg_finite := hPre_rstd_nonneg_finite)
-- ==== Pre_rstd_nonneg_finite.lean ====
abbrev S4x4096x8192 : Shape := ⟨3, ![4, 4096, 8192]⟩
abbrev S4x4096 : Shape := ⟨2, ![4, 4096]⟩
abbrev S8192 : Shape := ⟨1, ![8192]⟩
abbrev S_ : Shape := ⟨0, ![]⟩

class Facts : Prop where
  bcast_S_S4x4096 : S_.BroadcastsInDim S4x4096 (![] : Fin 0 → Fin S4x4096.rank)

variable [Facts]

def fn {F : FTy → Type} [FloatOps F] (main_arg0 : FVec F S4x4096x8192 .bf16) (main_arg1 : FVec F S4x4096 .f32) (main_arg2 : FVec F S8192 .f32) (main_arg3 : FVec F S4x4096x8192 .bf16) (main_arg4 : FVec F S4x4096x8192 .bf16) (main_arg5 : FVec F S4x4096x8192 .bf16) (main_arg6 : FVec F S4x4096x8192 .bf16) : IVec S4x4096 1 :=
  let main_cst : FVec F S_ .f32 := constant S_ .f32 0x00000000#32
  let main_v0 : FVec F S4x4096 .f32 := broadcastInDim S4x4096 ![] bcast_S_S4x4096 main_cst
  let main_v1 : IVec S4x4096 1 := cmpf .oge main_arg1 main_v0
  let main_cst_0 : FVec F S_ .f32 := constant S_ .f32 0x7F800000#32
  let main_v2 : FVec F S4x4096 .f32 := broadcastInDim S4x4096 ![] bcast_S_S4x4096 main_cst_0
  let main_v3 : IVec S4x4096 1 := cmpf .olt main_arg1 main_v2
  let main_v4 : IVec S4x4096 1 := andi main_v1 main_v3
  main_v4
-- ==== Kernel.lean ====
abbrev S4x4096x8192 : Shape := ⟨3, ![4, 4096, 8192]⟩
abbrev S4x4096 : Shape := ⟨2, ![4, 4096]⟩
abbrev S8192 : Shape := ⟨1, ![8192]⟩
abbrev S16384x8192 : Shape := ⟨2, ![16384, 8192]⟩
abbrev S128x1x128 : Shape := ⟨3, ![128, 1, 128]⟩
abbrev S1x8192 : Shape := ⟨2, ![1, 8192]⟩
abbrev S4x32x8192 : Shape := ⟨3, ![4, 32, 8192]⟩
abbrev S16384x64 : Shape := ⟨2, ![16384, 64]⟩
abbrev S128x8192 : Shape := ⟨2, ![128, 8192]⟩
abbrev S1x1x128 : Shape := ⟨3, ![1, 1, 128]⟩
abbrev S1x8x8192 : Shape := ⟨3, ![1, 8, 8192]⟩
abbrev S128x64 : Shape := ⟨2, ![128, 64]⟩
abbrev S32x8192 : Shape := ⟨2, ![32, 8192]⟩
abbrev S128x128 : Shape := ⟨2, ![128, 128]⟩
abbrev S8x8192 : Shape := ⟨2, ![8, 8192]⟩
abbrev S1x128 : Shape := ⟨2, ![1, 128]⟩
abbrev S32x128 : Shape := ⟨2, ![32, 128]⟩
abbrev S32x256 : Shape := ⟨2, ![32, 256]⟩
abbrev S8x128 : Shape := ⟨2, ![8, 128]⟩
abbrev S32 : Shape := ⟨1, ![32]⟩
abbrev S32x1 : Shape := ⟨2, ![32, 1]⟩
abbrev S32x64 : Shape := ⟨2, ![32, 64]⟩
abbrev S128 : Shape := ⟨1, ![128]⟩
abbrev S1x8x128 : Shape := ⟨3, ![1, 8, 128]⟩
abbrev S4x4096x64 : Shape := ⟨3, ![4, 4096, 64]⟩

abbrev nBuf : Space → Nat
  | .hbm => 26
  | .vmem => 31
  | .smem => 0
  | _ => 0

abbrev bufTy : (tb : Table) → Fin (tcTables nBuf tb) → BufTy
  | .hbm, ⟨0, _⟩ => ⟨S4x4096x8192, .bf16⟩
  | .hbm, ⟨1, _⟩ => ⟨S4x4096, .f32⟩
  | .hbm, ⟨2, _⟩ => ⟨S8192, .f32⟩
  | .hbm, ⟨3, _⟩ => ⟨S4x4096x8192, .bf16⟩
  | .hbm, ⟨4, _⟩ => ⟨S4x4096x8192, .bf16⟩
  | .hbm, ⟨5, _⟩ => ⟨S4x4096x8192, .bf16⟩
  | .hbm, ⟨6, _⟩ => ⟨S4x4096x8192, .bf16⟩
  | .hbm, ⟨7, _⟩ => ⟨S16384x8192, .bf16⟩
  | .hbm, ⟨8, _⟩ => ⟨S16384x8192, .bf16⟩
  | .hbm, ⟨9, _⟩ => ⟨S16384x8192, .bf16⟩
  | .hbm, ⟨10, _⟩ => ⟨S16384x8192, .bf16⟩
  | .hbm, ⟨11, _⟩ => ⟨S16384x8192, .bf16⟩
  | .hbm, ⟨12, _⟩ => ⟨S128x1x128, .f32⟩
  | .hbm, ⟨13, _⟩ => ⟨S1x8192, .f32⟩
  | .hbm, ⟨14, _⟩ => ⟨S16384x8192, .bf16⟩
  | .hbm, ⟨15, _⟩ => ⟨S1x8192, .f32⟩
  | .hbm, ⟨16, _⟩ => ⟨S4x32x8192, .f32⟩
  | .hbm, ⟨17, _⟩ => ⟨S16384x8192, .fp8e4m3⟩
  | .hbm, ⟨18, _⟩ => ⟨S16384x64, .f32⟩
  | .hbm, ⟨19, _⟩ => ⟨S16384x8192, .fp8e4m3⟩
  | .hbm, ⟨20, _⟩ => ⟨S4x32x8192, .f32⟩
  | .hbm, ⟨21, _⟩ => ⟨S4x4096x8192, .bf16⟩
  | .hbm, ⟨22, _⟩ => ⟨S8192, .f32⟩
  | .hbm, ⟨23, _⟩ => ⟨S4x4096x8192, .fp8e4m3⟩
  | .hbm, ⟨24, _⟩ => ⟨S4x4096x64, .f32⟩
  | .hbm, ⟨25, _⟩ => ⟨S4x4096x8192, .fp8e4m3⟩
  | .local _ .vmem, ⟨0, _⟩ => ⟨S128x8192, .bf16⟩
  | .local _ .vmem, ⟨1, _⟩ => ⟨S128x8192, .bf16⟩
  | .local _ .vmem, ⟨2, _⟩ => ⟨S1x1x128, .f32⟩
  | .local _ .vmem, ⟨3, _⟩ => ⟨S1x1x128, .f32⟩
  | .local _ .vmem, ⟨4, _⟩ => ⟨S1x8192, .f32⟩
  | .local _ .vmem, ⟨5, _⟩ => ⟨S128x8192, .bf16⟩
  | .local _ .vmem, ⟨6, _⟩ => ⟨S128x8192, .bf16⟩
  | .local _ .vmem, ⟨7, _⟩ => ⟨S128x8192, .bf16⟩
  | .local _ .vmem, ⟨8, _⟩ => ⟨S128x8192, .bf16⟩
  | .local _ .vmem, ⟨9, _⟩ => ⟨S128x8192, .bf16⟩
  | .local _ .vmem, ⟨10, _⟩ => ⟨S128x8192, .bf16⟩
  | .local _ .vmem, ⟨11, _⟩ => ⟨S128x8192, .bf16⟩
  | .local _ .vmem, ⟨12, _⟩ => ⟨S128x8192, .bf16⟩
  | .local _ .vmem, ⟨13, _⟩ => ⟨S128x8192, .bf16⟩
  | .local _ .vmem, ⟨14, _⟩ => ⟨S128x8192, .bf16⟩
  | .local _ .vmem, ⟨15, _⟩ => ⟨S1x8192, .f32⟩
  | .local _ .vmem, ⟨16, _⟩ => ⟨S1x8x8192, .f32⟩
  | .local _ .vmem, ⟨17, _⟩ => ⟨S1x8x8192, .f32⟩
  | .local _ .vmem, ⟨18, _⟩ => ⟨S128x8192, .fp8e4m3⟩
  | .local _ .vmem, ⟨19, _⟩ => ⟨S128x8192, .fp8e4m3⟩
  | .local _ .vmem, ⟨20, _⟩ => ⟨S128x64, .f32⟩
  | .local _ .vmem, ⟨21, _⟩ => ⟨S128x64, .f32⟩
  | .local _ .vmem, ⟨22, _⟩ => ⟨S128x8192, .fp8e4m3⟩
  | .local _ .vmem, ⟨23, _⟩ => ⟨S128x8192, .fp8e4m3⟩
  | .local _ .vmem, ⟨24, _⟩ => ⟨S1x8x8192, .f32⟩
  | .local _ .vmem, ⟨25, _⟩ => ⟨S1x8x8192, .f32⟩
  | .local _ .vmem, ⟨26, _⟩ => ⟨S32x8192, .f32⟩
  | .local _ .vmem, ⟨27, _⟩ => ⟨S128x8192, .f32⟩
  | .local _ .vmem, ⟨28, _⟩ => ⟨S128x128, .f32⟩
  | .local _ .vmem, ⟨29, _⟩ => ⟨S8x8192, .f32⟩
  | .local _ .vmem, ⟨30, _⟩ => ⟨S8x8192, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c4_i32 : BitVec 32 := 4#32
  let v16 : BitVec 32 := Scalar.addi c0_i32 c4_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c32_i32 : BitVec 32 := 32#32
  let v31 : BitVec 32 := Scalar.muli arg20 c32_i32
  v31
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c32_i32 : BitVec 32 := 32#32
  let v31 : BitVec 32 := Scalar.muli arg20 c32_i32
  let v32 : BitVec 32 := v31
  let v33 : Index := Scalar.indexCast v32
  let c0_18 : Index := 0#32
  ![v33.toNat, 0]
@[reducible] def k0_t2_loop : Scf.Loop 32 :=
  let c0_i32_20 : BitVec 32 := 0#32
  let c32_i32_21 : BitVec 32 := 32#32
  let v36 : BitVec 32 := Scalar.addi c0_i32_20 c32_i32_21
  let c1_i32_22 : BitVec 32 := 1#32
  ⟨c0_i32_20, v36, c1_i32_22⟩
def k0_mult2 (k0_t2 : Fin k0_t2_loop.trips) : BitVec 32 :=
  let c0_i32_20 : BitVec 32 := 0#32
  let c1_i32_22 : BitVec 32 := 1#32
  let arg21 : BitVec 32 := Scf.iv c0_i32_20 c1_i32_22 k0_t2
  let c256_i32 : BitVec 32 := 256#32
  let v63 : BitVec 32 := Scalar.muli arg21 c256_i32
  v63
def k0_off2 (k0_t1 : Fin k0_t1_loop.trips) (k0_t2 : Fin k0_t2_loop.trips) : Fin 2 → Nat :=
  let c0_i32 : BitVec 32 := 0#32
  let c1_i32 : BitVec 32 := 1#32
  let arg20 : BitVec 32 := Scf.iv c0_i32 c1_i32 k0_t1
  let c32_i32 : BitVec 32 := 32#32
  let v31 : BitVec 32 := Scalar.muli arg20 c32_i32
  let v32 : BitVec 32 := v31
  let v65 : Index := Scalar.indexCast v32
  let c0_i32_20 : BitVec 32 := 0#32
  let c1_i32_22 : BitVec 32 := 1#32
  let arg21 : BitVec 32 := Scf.iv c0_i32_20 c1_i32_22 k0_t2
  let c256_i32 : BitVec 32 := 256#32
  let v63 : BitVec 32 := Scalar.muli arg21 c256_i32
  let v64 : BitVec 32 := v63
  let v66 : Index := Scalar.indexCast v64
  ![v65.toNat, v66.toNat]
def k0_mult3 (k0_t2 : Fin k0_t2_loop.trips) : BitVec 32 :=
  let c0_i32_20 : BitVec 32 := 0#32
  let c1_i32_22 : BitVec 32 := 1#32
  let arg21 : BitVec 32 := Scf.iv c0_i32_20 c1_i32_22 k0_t2
  let c256_i32_34 : BitVec 32 := 256#32
  let v87 : BitVec 32 := Scalar.muli arg21 c256_i32_34
  let c0_i32_35 : BitVec 32 := 0#32
  let v88 : BitVec 32 := Scalar.addi v87 c0_i32_35
  v88
def k0_off3 (k0_t2 : Fin k0_t2_loop.trips) (c0_i32_35 : BitVec 32) : Fin 2 → Nat :=
  let c0_36 : Index := 0#32
  let c0_i32_20 : BitVec 32 := 0#32
  let c1_i32_22 : BitVec 32 := 1#32
  let arg21 : BitVec 32 := Scf.iv c0_i32_20 c1_i32_22 k0_t2
  let c256_i32_34 : BitVec 32 := 256#32
  let v87 : BitVec 32 := Scalar.muli arg21 c256_i32_34
  let v88 : BitVec 32 := Scalar.addi v87 c0_i32_35
  let v89 : BitVec 32 := v88
  let v93 : Index := Scalar.indexCast v89
  ![0, v93.toNat]
def k0_off4 (k0_t2 : Fin k0_t2_loop.trips) (c0_i32_35 : BitVec 32) : Fin 2 → Nat :=
  let c0_37 : Index := 0#32
  let c0_i32_20 : BitVec 32 := 0#32
  let c1_i32_22 : BitVec 32 := 1#32
  let arg21 : BitVec 32 := Scf.iv c0_i32_20 c1_i32_22 k0_t2
  let c256_i32_34 : BitVec 32 := 256#32
  let v87 : BitVec 32 := Scalar.muli arg21 c256_i32_34
  let v88 : BitVec 32 := Scalar.addi v87 c0_i32_35
  let v89 : BitVec 32 := v88
  let v98 : Index := Scalar.indexCast v89
  ![0, v98.toNat]
def k0_off5 (k0_t2 : Fin k0_t2_loop.trips) (c0_i32_35 : BitVec 32) : Fin 2 → Nat :=
  let c0_38 : Index := 0#32
  let c0_i32_20 : BitVec 32 := 0#32
  let c1_i32_22 : BitVec 32 := 1#32
  let arg21 : BitVec 32 := Scf.iv c0_i32_20 c1_i32_22 k0_t2
  let c256_i32_34 : BitVec 32 := 256#32
  let v87 : BitVec 32 := Scalar.muli arg21 c256_i32_34
  let v88 : BitVec 32 := Scalar.addi v87 c0_i32_35
  let v89 : BitVec 32 := v88
  let v102 : Index := Scalar.indexCast v89
  ![0, v102.toNat]
def k0_mult4 (k0_t2 : Fin k0_t2_loop.trips) : BitVec 32 :=
  let c0_i32_20 : BitVec 32 := 0#32
  let c1_i32_22 : BitVec 32 := 1#32
  let arg21 : BitVec 32 := Scf.iv c0_i32_20 c1_i32_22 k0_t2
  let c256_i32_40 : BitVec 32 := 256#32
  let v119 : BitVec 32 := Scalar.muli arg21 c256_i32_40
  let c128_i32 : BitVec 32 := 128#32
  let v120 : BitVec 32 := Scalar.addi v119 c128_i32
  v120
@[reducible] def k0_t3_loop : Scf.Loop 32 :=
  let c0_i32_27 : BitVec 32 := 0#32
  let c32_i32_28 : BitVec 32 := 32#32
  let v47 : BitVec 32 := Scalar.addi c0_i32_27 c32_i32_28
  let c1_i32_29 : BitVec 32 := 1#32
  ⟨c0_i32_27, v47, c1_i32_29⟩
def k0_mult5 (k0_t3 : Fin k0_t3_loop.trips) : BitVec 32 :=
  let c0_i32_27 : BitVec 32 := 0#32
  let c1_i32_29 : BitVec 32 := 1#32
  let arg21 : BitVec 32 := Scf.iv c0_i32_27 c1_i32_29 k0_t3
  let c256_i32 : BitVec 32 := 256#32
  let v63 : BitVec 32 := Scalar.muli arg21 c256_i32
  v63
def k0_off6 (k0_t1 : Fin k0_t1_loop.trips) (k0_t3 : Fin k0_t3_loop.trips) : Fin 2 → Nat :=
  let c0_i32 : BitVec 32 := 0#32
  let c1_i32 : BitVec 32 := 1#32
  let arg20 : BitVec 32 := Scf.iv c0_i32 c1_i32 k0_t1
  let c32_i32 : BitVec 32 := 32#32
  let v31 : BitVec 32 := Scalar.muli arg20 c32_i32
  let v32 : BitVec 32 := v31
  let v65 : Index := Scalar.indexCast v32
  let c0_i32_27 : BitVec 32 := 0#32
  let c1_i32_29 : BitVec 32 := 1#32
  let arg21 : BitVec 32 := Scf.iv c0_i32_27 c1_i32_29 k0_t3
  let c256_i32 : BitVec 32 := 256#32
  let v63 : BitVec 32 := Scalar.muli arg21 c256_i32
  let v64 : BitVec 32 := v63
  let v66 : Index := Scalar.indexCast v64
  ![v65.toNat, v66.toNat]
def k0_mult6 (k0_t3 : Fin k0_t3_loop.trips) : BitVec 32 :=
  let c0_i32_27 : BitVec 32 := 0#32
  let c1_i32_29 : BitVec 32 := 1#32
  let arg21 : BitVec 32 := Scf.iv c0_i32_27 c1_i32_29 k0_t3
  let c256_i32_34 : BitVec 32 := 256#32
  let v75 : BitVec 32 := Scalar.muli arg21 c256_i32_34
  let c0_i32_35 : BitVec 32 := 0#32
  let v76 : BitVec 32 := Scalar.addi v75 c0_i32_35
  v76
def k0_off7 (k0_t3 : Fin k0_t3_loop.trips) (c0_i32_35 : BitVec 32) : Fin 2 → Nat :=
  let c0_36 : Index := 0#32
  let c0_i32_27 : BitVec 32 := 0#32
  let c1_i32_29 : BitVec 32 := 1#32
  let arg21 : BitVec 32 := Scf.iv c0_i32_27 c1_i32_29 k0_t3
  let c256_i32_34 : BitVec 32 := 256#32
  let v75 : BitVec 32 := Scalar.muli arg21 c256_i32_34
  let v76 : BitVec 32 := Scalar.addi v75 c0_i32_35
  let v77 : BitVec 32 := v76
  let v78 : Index := Scalar.indexCast v77
  ![0, v78.toNat]
def k0_off8 (k0_t1 : Fin k0_t1_loop.trips) (k0_t3 : Fin k0_t3_loop.trips) (c0_i32_35 : BitVec 32) : Fin 2 → Nat :=
  let c0_i32 : BitVec 32 := 0#32
  let c1_i32 : BitVec 32 := 1#32
  let arg20 : BitVec 32 := Scf.iv c0_i32 c1_i32 k0_t1
  let c32_i32 : BitVec 32 := 32#32
  let v31 : BitVec 32 := Scalar.muli arg20 c32_i32
  let v32 : BitVec 32 := v31
  let v85 : Index := Scalar.indexCast v32
  let c0_i32_27 : BitVec 32 := 0#32
  let c1_i32_29 : BitVec 32 := 1#32
  let arg21 : BitVec 32 := Scf.iv c0_i32_27 c1_i32_29 k0_t3
  let c256_i32_34 : BitVec 32 := 256#32
  let v75 : BitVec 32 := Scalar.muli arg21 c256_i32_34
  let v76 : BitVec 32 := Scalar.addi v75 c0_i32_35
  let v77 : BitVec 32 := v76
  let v86 : Index := Scalar.indexCast v77
  ![v85.toNat, v86.toNat]
def k0_off9 (k0_t3 : Fin k0_t3_loop.trips) (c0_i32_35 : BitVec 32) : Fin 2 → Nat :=
  let c0_37 : Index := 0#32
  let c0_i32_27 : BitVec 32 := 0#32
  let c1_i32_29 : BitVec 32 := 1#32
  let arg21 : BitVec 32 := Scf.iv c0_i32_27 c1_i32_29 k0_t3
  let c256_i32_34 : BitVec 32 := 256#32
  let v75 : BitVec 32 := Scalar.muli arg21 c256_i32_34
  let v76 : BitVec 32 := Scalar.addi v75 c0_i32_35
  let v77 : BitVec 32 := v76
  let v91 : Index := Scalar.indexCast v77
  ![0, v91.toNat]
def k0_mult7 (k0_t3 : Fin k0_t3_loop.trips) : BitVec 32 :=
  let c0_i32_27 : BitVec 32 := 0#32
  let c1_i32_29 : BitVec 32 := 1#32
  let arg21 : BitVec 32 := Scf.iv c0_i32_27 c1_i32_29 k0_t3
  let c256_i32_51 : BitVec 32 := 256#32
  let v184 : BitVec 32 := Scalar.muli arg21 c256_i32_51
  let c128_i32 : BitVec 32 := 128#32
  let v185 : BitVec 32 := Scalar.addi v184 c128_i32
  v185
def k0_mult8 (k0_t3 : Fin k0_t3_loop.trips) : BitVec 32 :=
  let c0_i32_27 : BitVec 32 := 0#32
  let c1_i32_29 : BitVec 32 := 1#32
  let arg21 : BitVec 32 := Scf.iv c0_i32_27 c1_i32_29 k0_t3
  let c256_i32_76 : BitVec 32 := 256#32
  let v298 : BitVec 32 := Scalar.muli arg21 c256_i32_76
  let c0_i32_77 : BitVec 32 := 0#32
  let v299 : BitVec 32 := Scalar.addi v298 c0_i32_77
  v299
def k0_mult9 (k0_t3 : Fin k0_t3_loop.trips) : BitVec 32 :=
  let c0_i32_27 : BitVec 32 := 0#32
  let c1_i32_29 : BitVec 32 := 1#32
  let arg21 : BitVec 32 := Scf.iv c0_i32_27 c1_i32_29 k0_t3
  let c256_i32_78 : BitVec 32 := 256#32
  let v304 : BitVec 32 := Scalar.muli arg21 c256_i32_78
  let c128_i32_79 : BitVec 32 := 128#32
  let v305 : BitVec 32 := Scalar.addi v304 c128_i32_79
  v305
def k0_off10 (k0_t1 : Fin k0_t1_loop.trips) : Fin 2 → Nat :=
  let c0_i32 : BitVec 32 := 0#32
  let c1_i32 : BitVec 32 := 1#32
  let arg20 : BitVec 32 := Scf.iv c0_i32 c1_i32 k0_t1
  let c32_i32 : BitVec 32 := 32#32
  let v31 : BitVec 32 := Scalar.muli arg20 c32_i32
  let v32 : BitVec 32 := v31
  let v61 : Index := Scalar.indexCast v32
  let c0_33 : Index := 0#32
  ![v61.toNat, 0]
@[reducible] def k0_t4_loop : Scf.Loop 32 :=
  let c0_i32_15 : BitVec 32 := 0#32
  let c64_i32 : BitVec 32 := 64#32
  let v30 : BitVec 32 := Scalar.addi c0_i32_15 c64_i32
  let c1_i32_16 : BitVec 32 := 1#32
  ⟨c0_i32_15, v30, c1_i32_16⟩
def k0_mult10 (k0_t4 : Fin k0_t4_loop.trips) : BitVec 32 :=
  let c0_i32_15 : BitVec 32 := 0#32
  let c1_i32_16 : BitVec 32 := 1#32
  let arg20 : BitVec 32 := Scf.iv c0_i32_15 c1_i32_16 k0_t4
  let c128_i32 : BitVec 32 := 128#32
  let v31 : BitVec 32 := Scalar.muli arg20 c128_i32
  v31
def k0_off11 (k0_t4 : Fin k0_t4_loop.trips) : Fin 2 → Nat :=
  let c0_18 : Index := 0#32
  let c0_i32_15 : BitVec 32 := 0#32
  let c1_i32_16 : BitVec 32 := 1#32
  let arg20 : BitVec 32 := Scf.iv c0_i32_15 c1_i32_16 k0_t4
  let c128_i32 : BitVec 32 := 128#32
  let v31 : BitVec 32 := Scalar.muli arg20 c128_i32
  let v32 : BitVec 32 := v31
  let v33 : Index := Scalar.indexCast v32
  ![0, v33.toNat]
def k0_off12 (k0_t4 : Fin k0_t4_loop.trips) : Fin 3 → Nat :=
  let c0_20 : Index := 0#32
  let c0_21 : Index := 0#32
  let c0_i32_15 : BitVec 32 := 0#32
  let c1_i32_16 : BitVec 32 := 1#32
  let arg20 : BitVec 32 := Scf.iv c0_i32_15 c1_i32_16 k0_t4
  let c128_i32 : BitVec 32 := 128#32
  let v31 : BitVec 32 := Scalar.muli arg20 c128_i32
  let v32 : BitVec 32 := v31
  let v37 : Index := Scalar.indexCast v32
  ![0, 0, v37.toNat]
def k0_off13 (k0_t4 : Fin k0_t4_loop.trips) : Fin 2 → Nat :=
  let c0_25 : Index := 0#32
  let c0_i32_15 : BitVec 32 := 0#32
  let c1_i32_16 : BitVec 32 := 1#32
  let arg20 : BitVec 32 := Scf.iv c0_i32_15 c1_i32_16 k0_t4
  let c128_i32 : BitVec 32 := 128#32
  let v31 : BitVec 32 := Scalar.muli arg20 c128_i32
  let v32 : BitVec 32 := v31
  let v48 : Index := Scalar.indexCast v32
  ![0, v48.toNat]
def k0_off14 (k0_t4 : Fin k0_t4_loop.trips) : Fin 2 → Nat :=
  let c0_40 : Index := 0#32
  let c0_i32_15 : BitVec 32 := 0#32
  let c1_i32_16 : BitVec 32 := 1#32
  let arg20 : BitVec 32 := Scf.iv c0_i32_15 c1_i32_16 k0_t4
  let c128_i32 : BitVec 32 := 128#32
  let v31 : BitVec 32 := Scalar.muli arg20 c128_i32
  let v32 : BitVec 32 := v31
  let v126 : Index := Scalar.indexCast v32
  ![0, v126.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.divsi v26 c8_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c8_i32 c0_i32_12
  let v34 : BitVec 32 := Scalar.extui v33
  let c0_i32_13 : BitVec 32 := 0#32
  let v35 : BitVec 1 := Scalar.cmpi .slt c8_i32 c0_i32_13
  let v36 : BitVec 32 := Scalar.extui v35
  let v37 : BitVec 32 := Scalar.subi v34 v36
  let v38 : BitVec 1 := Scalar.cmpi .ne v32 v37
  let v39 : BitVec 32 := Scalar.remsi v26 c8_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.divsi v26 c8_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c8_i32 c0_i32_12
  let v34 : BitVec 32 := Scalar.extui v33
  let c0_i32_13 : BitVec 32 := 0#32
  let v35 : BitVec 1 := Scalar.cmpi .slt c8_i32 c0_i32_13
  let v36 : BitVec 32 := Scalar.extui v35
  let v37 : BitVec 32 := Scalar.subi v34 v36
  let v38 : BitVec 1 := Scalar.cmpi .ne v32 v37
  let v39 : BitVec 32 := Scalar.remsi v26 c8_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x8192 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x8192 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x4096x8192 : Shape := ⟨3, ![4, 4096, 8192]⟩
abbrev S4x4096 : Shape := ⟨2, ![4, 4096]⟩
abbrev S8192 : Shape := ⟨1, ![8192]⟩
abbrev S4x4096x1 : Shape := ⟨3, ![4, 4096, 1]⟩
abbrev S1x1x8192 : Shape := ⟨3, ![1, 1, 8192]⟩
abbrev S_ : Shape := ⟨0, ![]⟩
abbrev S4x32x128x8192 : Shape := ⟨4, ![4, 32, 128, 8192]⟩
abbrev S4x32x8192 : Shape := ⟨3, ![4, 32, 8192]⟩
abbrev S4x4096x64x128 : Shape := ⟨4, ![4, 4096, 64, 128]⟩
abbrev S4x4096x64 : Shape := ⟨3, ![4, 4096, 64]⟩
abbrev S4x4096x64x1 : Shape := ⟨4, ![4, 4096, 64, 1]⟩
abbrev S4x32x1x8192 : Shape := ⟨4, ![4, 32, 1, 8192]⟩

abbrev nBuf : Space → Nat
  | .hbm => 150
  | .vmem => 0
  | .smem => 0
  | _ => 0

abbrev hbmTy0_0 (i : Nat) : BufTy := match i % 128 with
  | 0 => ⟨S4x4096x8192, .bf16⟩
  | 1 => ⟨S4x4096, .f32⟩
  | 2 => ⟨S8192, .f32⟩
  | 3 => ⟨S4x4096x8192, .bf16⟩
  | 4 => ⟨S4x4096x8192, .bf16⟩
  | 5 => ⟨S4x4096x8192, .bf16⟩
  | 6 => ⟨S4x4096x8192, .bf16⟩
  | 7 => ⟨S4x4096x1, .f32⟩
  | 8 => ⟨S4x4096x8192, .f32⟩
  | 9 => ⟨S4x4096x8192, .f32⟩
  | 10 => ⟨S4x4096x8192, .f32⟩
  | 11 => ⟨S4x4096x8192, .f32⟩
  | 12 => ⟨S4x4096x8192, .f32⟩
  | 13 => ⟨S4x4096x8192, .f32⟩
  | 14 => ⟨S4x4096x8192, .f32⟩
  | 15 => ⟨S4x4096x8192, .f32⟩
  | 16 => ⟨S1x1x8192, .f32⟩
  | 17 => ⟨S4x4096x8192, .f32⟩
  | 18 => ⟨S4x4096x8192, .f32⟩
  | 19 => ⟨S4x4096x8192, .f32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S4x4096x8192, .f32⟩
  | 27 => ⟨S4x4096x8192, .f32⟩
  | 28 => ⟨S4x4096x8192, .f32⟩
  | 29 => ⟨S4x4096x8192, .f32⟩
  | 30 => ⟨S4x4096x8192, .f32⟩
  | 31 => ⟨S4x4096x8192, .f32⟩
  | 32 => ⟨S4x32x128x8192, .f32⟩
  | 33 => ⟨S_, .f32⟩
  | 34 => ⟨S4x32x8192, .f32⟩
  | 35 => ⟨S_, .f32⟩
  | 36 => ⟨S8192, .f32⟩
  | 37 => ⟨S4x4096x8192, .f32⟩
  | 38 => ⟨S4x4096x8192, .f32⟩
  | 39 => ⟨S4x4096x64x128, .f32⟩
  | 40 => ⟨S4x4096x64x128, .f32⟩
  | 41 => ⟨S_, .f32⟩
  | 42 => ⟨S4x4096x64, .f32⟩
  | 43 => ⟨S4x4096x64x1, .f32⟩
  | 44 => ⟨S_, .f32⟩
  | 45 => ⟨S4x4096x64x1, .f32⟩
  | 46 => ⟨S4x4096x64x1, .f32⟩
  | 47 => ⟨S4x4096x64x1, .f32⟩
  | 48 => ⟨S_, .f32⟩
  | 49 => ⟨S_, .f32⟩
  | 50 => ⟨S4x4096x64x1, .f32⟩
  | 51 => ⟨S4x4096x64x1, .f32⟩
  | 52 => ⟨S4x4096x64x1, .f32⟩
  | 53 => ⟨S_, .f32⟩
  | 54 => ⟨S4x4096x64x1, .f32⟩
  | 55 => ⟨S4x4096x64x1, .f32⟩
  | 56 => ⟨S_, .f32⟩
  | 57 => ⟨S4x4096x64x1, .f32⟩
  | 58 => ⟨S4x4096x64x1, .i1⟩
  | 59 => ⟨S_, .f32⟩
  | 60 => ⟨S4x4096x64x1, .f32⟩
  | 61 => ⟨S4x4096x64x1, .i1⟩
  | 62 => ⟨S4x4096x64x1, .i1⟩
  | 63 => ⟨S_, .f32⟩
  | 64 => ⟨S_, .f32⟩
  | 65 => ⟨S4x4096x64x1, .f32⟩
  | 66 => ⟨S4x4096x64x1, .f32⟩
  | 67 => ⟨S_, .f32⟩
  | 68 => ⟨S4x4096x64x1, .f32⟩
  | 69 => ⟨S4x4096x64x1, .f32⟩
  | 70 => ⟨S_, .f32⟩
  | 71 => ⟨S4x4096x64x1, .f32⟩
  | 72 => ⟨S4x4096x64x1, .i1⟩
  | 73 => ⟨S4x4096x64x1, .f32⟩
  | 74 => ⟨S_, .f32⟩
  | 75 => ⟨S4x4096x64x1, .f32⟩
  | 76 => ⟨S4x4096x64x1, .f32⟩
  | 77 => ⟨S_, .f32⟩
  | 78 => ⟨S_, .f32⟩
  | 79 => ⟨S4x4096x64x1, .f32⟩
  | 80 => ⟨S4x4096x64x1, .f32⟩
  | 81 => ⟨S4x4096x64x128, .f32⟩
  | 82 => ⟨S4x4096x64x128, .f32⟩
  | 83 => ⟨S_, .f32⟩
  | 84 => ⟨S_, .f32⟩
  | 85 => ⟨S_, .f32⟩
  | 86 => ⟨S4x4096x64x128, .f32⟩
  | 87 => ⟨S4x4096x64x128, .f32⟩
  | 88 => ⟨S_, .f32⟩
  | 89 => ⟨S4x4096x64x128, .f32⟩
  | 90 => ⟨S4x4096x64x128, .f32⟩
  | 91 => ⟨S4x4096x64x128, .fp8e4m3⟩
  | 92 => ⟨S4x32x128x8192, .f32⟩
  | 93 => ⟨S4x32x128x8192, .f32⟩
  | 94 => ⟨S_, .f32⟩
  | 95 => ⟨S4x32x8192, .f32⟩
  | 96 => ⟨S4x32x1x8192, .f32⟩
  | 97 => ⟨S_, .f32⟩
  | 98 => ⟨S4x32x1x8192, .f32⟩
  | 99 => ⟨S4x32x1x8192, .f32⟩
  | 100 => ⟨S4x32x1x8192, .f32⟩
  | 101 => ⟨S_, .f32⟩
  | 102 => ⟨S_, .f32⟩
  | 103 => ⟨S4x32x1x8192, .f32⟩
  | 104 => ⟨S4x32x1x8192, .f32⟩
  | 105 => ⟨S4x32x1x8192, .f32⟩
  | 106 => ⟨S_, .f32⟩
  | 107 => ⟨S4x32x1x8192, .f32⟩
  | 108 => ⟨S4x32x1x8192, .f32⟩
  | 109 => ⟨S_, .f32⟩
  | 110 => ⟨S4x32x1x8192, .f32⟩
  | 111 => ⟨S4x32x1x8192, .i1⟩
  | 112 => ⟨S_, .f32⟩
  | 113 => ⟨S4x32x1x8192, .f32⟩
  | 114 => ⟨S4x32x1x8192, .i1⟩
  | 115 => ⟨S4x32x1x8192, .i1⟩
  | 116 => ⟨S_, .f32⟩
  | 117 => ⟨S_, .f32⟩
  | 118 => ⟨S4x32x1x8192, .f32⟩
  | 119 => ⟨S4x32x1x8192, .f32⟩
  | 120 => ⟨S_, .f32⟩
  | 121 => ⟨S4x32x1x8192, .f32⟩
  | 122 => ⟨S4x32x1x8192, .f32⟩
  | 123 => ⟨S_, .f32⟩
  | 124 => ⟨S4x32x1x8192, .f32⟩
  | 125 => ⟨S4x32x1x8192, .i1⟩
  | 126 => ⟨S4x32x1x8192, .f32⟩
  | 127 => ⟨S_, .f32⟩
  | _ => ⟨S4x4096x8192, .bf16⟩

abbrev hbmTy0_1 (i : Nat) : BufTy := match i % 128 with
  | 0 => ⟨S4x32x1x8192, .f32⟩
  | 1 => ⟨S4x32x1x8192, .f32⟩
  | 2 => ⟨S_, .f32⟩
  | 3 => ⟨S_, .f32⟩
  | 4 => ⟨S4x32x1x8192, .f32⟩
  | 5 => ⟨S4x32x1x8192, .f32⟩
  | 6 => ⟨S4x32x128x8192, .f32⟩
  | 7 => ⟨S4x32x128x8192, .f32⟩
  | 8 => ⟨S_, .f32⟩
  | 9 => ⟨S_, .f32⟩
  | 10 => ⟨S_, .f32⟩
  | 11 => ⟨S4x32x128x8192, .f32⟩
  | 12 => ⟨S4x32x128x8192, .f32⟩
  | 13 => ⟨S_, .f32⟩
  | 14 => ⟨S4x32x128x8192, .f32⟩
  | 15 => ⟨S4x32x128x8192, .f32⟩
  | 16 => ⟨S4x32x128x8192, .fp8e4m3⟩
  | 17 => ⟨S4x4096x8192, .bf16⟩
  | 18 => ⟨S4x4096x8192, .fp8e4m3⟩
  | 19 => ⟨S4x4096x64, .f32⟩
  | 20 => ⟨S4x4096x8192, .fp8e4m3⟩
  | 21 => ⟨S4x32x8192, .f32⟩
  | _ => ⟨S4x4096x8192, .bf16⟩

abbrev hbmTy (i : Nat) : BufTy := match i / 128 with
  | 0 => hbmTy0_0 i
  | 1 => hbmTy0_1 i
  | _ => ⟨S4x4096x8192, .bf16⟩

abbrev bufTy : (tb : Table) → Fin (tcTables nBuf tb) → BufTy
  | .hbm, ⟨i, _⟩ => hbmTy i
  | _, _ => ⟨S4x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_call0_v0 : Ref sig .tc := ⟨.hbm, 64, rfl⟩
abbrev main_call0_v1 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_cst_15 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_16 : Ref sig .tc := ⟨.hbm, 94, rfl⟩
abbrev main_v61 : Ref sig .tc := ⟨.hbm, 95, rfl⟩
abbrev main_v62 : Ref sig .tc := ⟨.hbm, 96, rfl⟩
abbrev main_cst_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_18 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_19 : Ref sig .tc := ⟨.hbm, 106, rfl⟩
abbrev main_v70 : Ref sig .tc := ⟨.hbm, 107, rfl⟩
abbrev main_v71 : Ref sig .tc := ⟨.hbm, 108, rfl⟩
abbrev main_cst_20 : Ref sig .tc := ⟨.hbm, 109, rfl⟩
abbrev main_v72 : Ref sig .tc := ⟨.hbm, 110, rfl⟩
abbrev main_v73 : Ref sig .tc := ⟨.hbm, 111, rfl⟩
abbrev main_cst_21 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_22 : Ref sig .tc := ⟨.hbm, 116, rfl⟩
abbrev main_call3_v0 : Ref sig .tc := ⟨.hbm, 117, rfl⟩
abbrev main_call3_v1 : Ref sig .tc := ⟨.hbm, 118, rfl⟩
abbrev main_v77 : Ref sig .tc := ⟨.hbm, 119, rfl⟩
abbrev main_cst_23 : Ref sig .tc := ⟨.hbm, 120, rfl⟩
abbrev main_v78 : Ref sig .tc := ⟨.hbm, 121, rfl⟩
abbrev main_v79 : Ref sig .tc := ⟨.hbm, 122, rfl⟩
abbrev main_cst_24 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_25 : Ref sig .tc := ⟨.hbm, 127, rfl⟩
abbrev main_v83 : Ref sig .tc := ⟨.hbm, 128, rfl⟩
abbrev main_v84 : Ref sig .tc := ⟨.hbm, 129, rfl⟩
abbrev main_cst_26 : Ref sig .tc := ⟨.hbm, 130, rfl⟩
abbrev main_call4_v0 : Ref sig .tc := ⟨.hbm, 131, rfl⟩
abbrev main_call4_v1 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_27 : Ref sig .tc := ⟨.hbm, 136, rfl⟩
abbrev main_cst_28 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩

abbrev nD : Nat := 1
abbrev τ : Topo := Topo.v7x

variable {F : FTy → Type} [FloatOps F]
-- ==== Proof.KernelRows.lean ====
/- The row-block loop of the kernel as one invariant over every trip, nothing of the values named: what the loop
   reads is held at fixed contents, what it writes at some contents. One trip is gone through symbolically; the two
   loops nested in it are gone through by their generated invariants. -/
module

public import proofs.«01_k».proof.Proof.Gen.Kernel.Loops
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
variable (arg1 : Memref sig .tc .vmem S128x8192 .bf16) (harg1 : arg1.IsWhole) (arg2 : Memref sig .tc .vmem S1x1x128 .f32) (harg2 : arg2.IsWhole) (arg3 : Memref sig .tc .vmem S1x8192 .f32) (harg3 : arg3.IsWhole)
  (arg4 : Memref sig .tc .vmem S128x8192 .bf16) (harg4 : arg4.IsWhole) (arg5 : Memref sig .tc .vmem S128x8192 .bf16) (harg5 : arg5.IsWhole) (arg6 : Memref sig .tc .vmem S128x8192 .bf16) (harg6 : arg6.IsWhole)
  (arg7 : Memref sig .tc .vmem S128x8192 .bf16) (harg7 : arg7.IsWhole) (arg8 : Memref sig .tc .vmem S128x8192 .bf16) (harg8 : arg8.IsWhole) (arg9 : Memref sig .tc .vmem S1x8192 .f32) (harg9 : arg9.IsWhole)
  (arg10 : Memref sig .tc .vmem S1x8x8192 .f32) (harg10 : arg10.IsWhole) (arg11 : Memref sig .tc .vmem S128x8192 .fp8e4m3) (harg11 : arg11.IsWhole) (arg12 : Memref sig .tc .vmem S128x64 .f32) (harg12 : arg12.IsWhole)
  (arg13 : Memref sig .tc .vmem S128x8192 .fp8e4m3) (harg13 : arg13.IsWhole) (arg14 : Memref sig .tc .vmem S1x8x8192 .f32) (harg14 : arg14.IsWhole) (arg15 : Memref sig .tc .vmem S32x8192 .f32) (harg15 : arg15.IsWhole)
  (arg16 : Memref sig .tc .vmem S128x8192 .f32) (harg16 : arg16.IsWhole) (arg17 : Memref sig .tc .vmem S128x128 .f32) (harg17 : arg17.IsWhole)
  (arg18 : Memref sig .tc .vmem S8x8192 .f32) (harg18 : arg18.IsWhole) (arg19 : Memref sig .tc .vmem S8x8192 .f32) (harg19 : arg19.IsWhole)

set_option warn.classDefReducibility false in
/-- The row-block loop's invariant: the blocks and the spread-out row factors read, the other buffers at anything. -/
@[sl_loop] def loopInv_rows (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X17 : BufTy.Contents (Elt F) arg17.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 where
  inv := fun _ _ => iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg17.view.loc (c : Thread nD τ) ↦[arg17.view.set]{fullShare} X17)
    ∗ (∃ f, (arg8.view.loc (c : Thread nD τ) ↦[arg8.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg18.view.loc (c : Thread nD τ) ↦[arg18.view.set]{fullShare} f)) ∗ (∃ f, (arg19.view.loc (c : Thread nD τ) ↦[arg19.view.set]{fullShare} f)))
  step := fun k acc => by
    unfold k0_t1_body
    iintro ⟨H1, H3, H4, H5, H6, H7, H17, ⟨%f8, H8⟩, ⟨%f11, H11⟩, ⟨%f12, H12⟩, ⟨%f15, H15⟩, ⟨%f16, H16⟩, ⟨%f18, H18⟩, ⟨%f19, H19⟩⟩
    sl_exec
    sl_step
    isplitl [H1]; · iexact H1
    isplitl [H3]; · iexact H3
    isplitl [H4]; · iexact H4
    isplitl [H5]; · iexact H5
    isplitl [H6]; · iexact H6
    isplitl [H7]; · iexact H7
    isplitl [H17]; · iexact H17
    isplitl [H8]; · iexists _; iexact H8
    isplitl [H11]; · iexists _; iexact H11
    isplitl [H12]; · iexists _; iexact H12
    isplitl [H15]; · iexists _; iexact H15
    isplitl [H16]; · iexists _; iexact H16
    isplitl [H18]; · iexists _; iexact H18
    iexists _; iexact H19

end Cert.Kernel.Hand

end
-- ==== Proof.KernelBody.lean ====
/- One point of the kernel's body, nothing of what it computes named: from the seven input blocks and any contents of
   the outputs' buffers and of the scratch, it runs to the inputs as they were and the rest at some contents. -/
module

public import proofs.«01_k».proof.Proof.KernelRows
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
variable (arg1 : Memref sig .tc .vmem S128x8192 .bf16) (harg1 : arg1.IsWhole) (arg2 : Memref sig .tc .vmem S1x1x128 .f32) (harg2 : arg2.IsWhole) (arg3 : Memref sig .tc .vmem S1x8192 .f32) (harg3 : arg3.IsWhole)
  (arg4 : Memref sig .tc .vmem S128x8192 .bf16) (harg4 : arg4.IsWhole) (arg5 : Memref sig .tc .vmem S128x8192 .bf16) (harg5 : arg5.IsWhole) (arg6 : Memref sig .tc .vmem S128x8192 .bf16) (harg6 : arg6.IsWhole)
  (arg7 : Memref sig .tc .vmem S128x8192 .bf16) (harg7 : arg7.IsWhole) (arg8 : Memref sig .tc .vmem S128x8192 .bf16) (harg8 : arg8.IsWhole) (arg9 : Memref sig .tc .vmem S1x8192 .f32) (harg9 : arg9.IsWhole)
  (arg10 : Memref sig .tc .vmem S1x8x8192 .f32) (harg10 : arg10.IsWhole) (arg11 : Memref sig .tc .vmem S128x8192 .fp8e4m3) (harg11 : arg11.IsWhole) (arg12 : Memref sig .tc .vmem S128x64 .f32) (harg12 : arg12.IsWhole)
  (arg13 : Memref sig .tc .vmem S128x8192 .fp8e4m3) (harg13 : arg13.IsWhole) (arg14 : Memref sig .tc .vmem S1x8x8192 .f32) (harg14 : arg14.IsWhole) (arg15 : Memref sig .tc .vmem S32x8192 .f32) (harg15 : arg15.IsWhole)
  (arg16 : Memref sig .tc .vmem S128x8192 .f32) (harg16 : arg16.IsWhole) (arg17 : Memref sig .tc .vmem S128x128 .f32) (harg17 : arg17.IsWhole)
  (arg18 : Memref sig .tc .vmem S8x8192 .f32) (harg18 : arg18.IsWhole) (arg19 : Memref sig .tc .vmem S8x8192 .f32) (harg19 : arg19.IsWhole)

set_option maxHeartbeats 1000000 in
/-- The body's triple on any whole buffers. -/
theorem body_runs (x0 : Vec F S128x8192 .bf16) (x1 : Vec F S1x1x128 .f32) (x2 : Vec F S1x8192 .f32) (x3 : Vec F S128x8192 .bf16) (x4 : Vec F S128x8192 .bf16) (x5 : Vec F S128x8192 .bf16) (x6 : Vec F S128x8192 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_rmsnorm_bwd_dual_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_rmsnorm_bwd_dual_quant_eq_skeleton]; unfold cc0_rmsnorm_bwd_dual_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Kernel.Hand

end
-- ==== Proof.KernelFrame.lean ====
/- The frame of the kernel: started with every semaphore counter at zero it terminates, nothing faults, its argument
   arrays end unchanged and every counter ends at zero. The outputs' contents are named nowhere. -/
module

public import proofs.«01_k».proof.Proof.KernelBody
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point -/

abbrev ms0 (t : Fin cfg0.N) : Memref sig .tc .vmem S128x8192 .bf16 := win0_0.stage (cfg0.slots t 0)
abbrev ms1 (t : Fin cfg0.N) : Memref sig .tc .vmem S1x1x128 .f32 := win0_1.stage (cfg0.slots t 1)
abbrev ms2 (t : Fin cfg0.N) : Memref sig .tc .vmem S1x8192 .f32 := win0_2.stage (cfg0.slots t 2)
abbrev ms3 (t : Fin cfg0.N) : Memref sig .tc .vmem S128x8192 .bf16 := win0_3.stage (cfg0.slots t 3)
abbrev ms4 (t : Fin cfg0.N) : Memref sig .tc .vmem S128x8192 .bf16 := win0_4.stage (cfg0.slots t 4)
abbrev ms5 (t : Fin cfg0.N) : Memref sig .tc .vmem S128x8192 .bf16 := win0_5.stage (cfg0.slots t 5)
abbrev ms6 (t : Fin cfg0.N) : Memref sig .tc .vmem S128x8192 .bf16 := win0_6.stage (cfg0.slots t 6)
abbrev ms7 (t : Fin cfg0.N) : Memref sig .tc .vmem S128x8192 .bf16 := win0_7.stage (cfg0.slots t 7)
abbrev ms8 (t : Fin cfg0.N) : Memref sig .tc .vmem S1x8192 .f32 := win0_8.stage (cfg0.slots t 8)
abbrev ms9 (t : Fin cfg0.N) : Memref sig .tc .vmem S1x8x8192 .f32 := win0_9.stage (cfg0.slots t 9)
abbrev ms10 (t : Fin cfg0.N) : Memref sig .tc .vmem S128x8192 .fp8e4m3 := win0_10.stage (cfg0.slots t 10)
abbrev ms11 (t : Fin cfg0.N) : Memref sig .tc .vmem S128x64 .f32 := win0_11.stage (cfg0.slots t 11)
abbrev ms12 (t : Fin cfg0.N) : Memref sig .tc .vmem S128x8192 .fp8e4m3 := win0_12.stage (cfg0.slots t 12)
abbrev ms13 (t : Fin cfg0.N) : Memref sig .tc .vmem S1x8x8192 .f32 := win0_13.stage (cfg0.slots t 13)
abbrev sc0 : Memref sig .tc .vmem S32x8192 .f32 := Memref.whole cc0_scratch0
abbrev sc1 : Memref sig .tc .vmem S128x8192 .f32 := Memref.whole cc0_scratch1
abbrev sc2 : Memref sig .tc .vmem S128x128 .f32 := Memref.whole cc0_scratch2
abbrev sc3 : Memref sig .tc .vmem S8x8192 .f32 := Memref.whole cc0_scratch3
abbrev sc4 : Memref sig .tc .vmem S8x8192 .f32 := Memref.whole cc0_scratch4

/-- The scratch at some contents, and the generator register: what the body is handed beside the windows. -/
theorem scratch_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The proof data -/

/-- The output windows, whose contents are not named. -/
def forgets0 : Fin 14 → Bool := fun w => decide (7 ≤ w.val)

/-- The results the host computes from the outputs by reshaping them. -/
def T0 : Finset (Ref sig .tc) := {main_v8, main_v9, main_v10, main_v11, main_v12}

/-- The lines after the region write only those. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals
      intro b hb
      simp only [StableHlo.reshape_writes, Finset.mem_singleton] at hb
      cases Proc.devRef_injective _ hb
      decide

/-- The arrays as the region finds them; after a point each input's buffer at its block, the outputs at nothing named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d)
    ∗ (∃ d, owns (c : Thread nD τ) (ms13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d)
    ∗ (∃ d, owns (c : Thread nD τ) (ms11 t) fullShare d)
    ∗ (∃ d, owns (c : Thread nD τ) (ms12 t) fullShare d)
    ∗ (∃ d, owns (c : Thread nD τ) (ms13 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, scratch_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_runs c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the launch theorem's implicit arguments are found by unifying its conclusion with this one
set_option backward.isDefEq.respectTransparency.types false in
set_option maxHeartbeats 800000 in
/-- The launch, with every semaphore counter at zero at the end. -/
theorem run_main : θ_run defs (onTc (τ := τ) (main (F := F))) (s₀ m ρ)
    (fun r => (Pipeline.RDat.FramePostR (cfgs 0) (fun c => (dats m 0 c).toRForget forgets0) T0 (V m)) r
      ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hT := sfx_writes) (hmain := hmain m Variants.none) (hA := A_eq m) (hΦ := fun _ _ => rfl)

/-- An argument array ends as it was launched: no window stages it and the host writes it nowhere. -/
theorem arg_kept {r} (h : Pipeline.RDat.FramePostR (cfgs 0) (fun c => (dats m 0 c).toRForget forgets0) T0 (V m) r)
    (c : Dev nD) (b : Ref sig .tc) (hb : b ∈ Pipeline.restRefs sig spec0 \ T0)
    (hV : V m c b = m ((c : Thread nD τ).loc b)) :
    r.2.mem ((c : Thread nD τ).loc b) = m ((c : Thread nD τ).loc b) :=
  ((h c).2 b hb).trans hV

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
    arg_kept m h.1 c main_arg0 (Finset.mem_sdiff.mpr ⟨Pipeline.mem_restRefs_of main_arg0 (by decide) (by decide), by decide⟩) (V_main_arg0 m c),
    arg_kept m h.1 c main_arg1 (Finset.mem_sdiff.mpr ⟨Pipeline.mem_restRefs_of main_arg1 (by decide) (by decide), by decide⟩) (V_main_arg1 m c),
    arg_kept m h.1 c main_arg2 (Finset.mem_sdiff.mpr ⟨Pipeline.mem_restRefs_of main_arg2 (by decide) (by decide), by decide⟩) (V_main_arg2 m c),
    arg_kept m h.1 c main_arg3 (Finset.mem_sdiff.mpr ⟨Pipeline.mem_restRefs_of main_arg3 (by decide) (by decide), by decide⟩) (V_main_arg3 m c),
    arg_kept m h.1 c main_arg4 (Finset.mem_sdiff.mpr ⟨Pipeline.mem_restRefs_of main_arg4 (by decide) (by decide), by decide⟩) (V_main_arg4 m c),
    arg_kept m h.1 c main_arg5 (Finset.mem_sdiff.mpr ⟨Pipeline.mem_restRefs_of main_arg5 (by decide) (by decide), by decide⟩) (V_main_arg5 m c),
    arg_kept m h.1 c main_arg6 (Finset.mem_sdiff.mpr ⟨Pipeline.mem_restRefs_of main_arg6 (by decide) (by decide), by decide⟩) (V_main_arg6 m c)⟩, h.2⟩)
    (run_main m ρ)

end Cert.Kernel.Hand

end
-- ==== Proof.Reads.lean ====
/- Buffers read at an index given by natural numbers: a load of a rectangle, and a buffer after a list of stores, each
   read at one element. The rectangle's corner is given in closed form; the rest is arithmetic of offsets. -/
module

public import Idealize.ShloMosaic.Lib.Pointwise
public import Idealize.ShloMosaic.Lib.VecWindow
public import Idealize.ShloMosaic.Lib.WritesUnit

@[expose] public section

noncomputable section

namespace Cert.Reads

open Idealize.ShloMosaic Idealize.ShloMosaic.TcCoe

variable {sig : RefSig} {κ : Kind} {sp : Space} {e : EltTy} {Val : EltTy → Type}

/-- Two elements of a matrix at equal coordinates are equal. -/
theorem at2_congr {α : Type} {R C : ℕ} (x : (⟨2, ![R, C]⟩ : Shape).Idx → α) {p p' : Fin R} {j j' : Fin C} (hp : p.val = p'.val)
    (hj : j.val = j'.val) : x (ix2 p j) = x (ix2 p' j') := by
  obtain rfl := Fin.ext hp; obtain rfl := Fin.ext hj; rfl

/-- Two elements of a three-axis array at equal coordinates are equal. -/
theorem at3_congr {α : Type} {A R C : ℕ} (x : (⟨3, ![A, R, C]⟩ : Shape).Idx → α) {a a' : Fin A} {p p' : Fin R} {j j' : Fin C}
    (ha : a.val = a'.val) (hp : p.val = p'.val) (hj : j.val = j'.val) : x (ix3 a p j) = x (ix3 a' p' j') := by
  obtain rfl := Fin.ext ha; obtain rfl := Fin.ext hp; obtain rfl := Fin.ext hj; rfl

/-- A load of an `H × W` rectangle of a matrix, at an element. -/
theorem load2 {R C H W : ℕ} (v : View sig κ sp ⟨2, ![R, C]⟩ e) (f : v.ty.Contents Val) {off : Fin 2 → ℕ}
    (inb : ∀ a : Fin 2, off a + (![H, W] : Fin 2 → ℕ) a ≤ (![R, C] : Fin 2 → ℕ) a) {a b : ℕ} (hoff : off = ![a, b]) (p : Fin H) (l : Fin W)
    (hp : a + p.val < R) (hl : b + l.val < C) :
    v.readAt Val (Rect.unit (s := ⟨2, ![R, C]⟩) off ![H, W] inb).toLoadRect f (ix2 p l) = v.read Val f (ix2 ⟨a + p.val, hp⟩ ⟨b + l.val, hl⟩) := by
  subst hoff
  rw [View.readAt_unit v f inb rfl inb]
  show v.read Val f _ = _
  congr 1
  funext i
  refine Fin.ext ?_
  match i with
  | ⟨0, _⟩ => show a + 1 * p.val = _; rw [Nat.one_mul]; rfl
  | ⟨1, _⟩ => show b + 1 * l.val = _; rw [Nat.one_mul]; rfl

/-- A load of an `A × H × W` box of a three-axis array, at an element. -/
theorem load3 {Q R C A H W : ℕ} (v : View sig κ sp ⟨3, ![Q, R, C]⟩ e) (f : v.ty.Contents Val) {off : Fin 3 → ℕ}
    (inb : ∀ a : Fin 3, off a + (![A, H, W] : Fin 3 → ℕ) a ≤ (![Q, R, C] : Fin 3 → ℕ) a) {z a b : ℕ} (hoff : off = ![z, a, b]) (y : Fin A)
    (p : Fin H) (l : Fin W) (hy : z + y.val < Q) (hp : a + p.val < R) (hl : b + l.val < C) :
    v.readAt Val (Rect.unit (s := ⟨3, ![Q, R, C]⟩) off ![A, H, W] inb).toLoadRect f (ix3 y p l)
      = v.read Val f (ix3 ⟨z + y.val, hy⟩ ⟨a + p.val, hp⟩ ⟨b + l.val, hl⟩) := by
  subst hoff
  rw [View.readAt_unit v f inb rfl inb]
  show v.read Val f _ = _
  congr 1
  funext i
  refine Fin.ext ?_
  match i with
  | ⟨0, _⟩ => show z + 1 * y.val = _; rw [Nat.one_mul]; rfl
  | ⟨1, _⟩ => show a + 1 * p.val = _; rw [Nat.one_mul]; rfl
  | ⟨2, _⟩ => show b + 1 * l.val = _; rw [Nat.one_mul]; rfl

/-- The newest store of a list covers the element: its payload is read. -/
theorem store2_in {R C H W : ℕ} (v : View sig κ sp ⟨2, ![R, C]⟩ e) (f : v.ty.Contents Val) {off : Fin 2 → ℕ}
    (inb : ∀ a : Fin 2, off a + (![H, W] : Fin 2 → ℕ) a ≤ (![R, C] : Fin 2 → ℕ) a)
    (w : (Rect.unit (s := ⟨2, ![R, C]⟩) off ![H, W] inb).shape.Idx → Val e) (L : List (View.Piece Val ⟨2, ![R, C]⟩ e)) {a b : ℕ}
    (hoff : off = ![a, b]) (p : Fin R) (j : Fin C) (hp : a ≤ p.val ∧ p.val < a + H) (hj : b ≤ j.val ∧ j.val < b + W) :
    v.read Val (v.writes Val f ((⟨Rect.unit (s := ⟨2, ![R, C]⟩) off ![H, W] inb, w⟩ : View.Piece Val ⟨2, ![R, C]⟩ e) :: L)) (ix2 p j)
      = w (ix2 (⟨p.val - a, by omega⟩ : Fin H) (⟨j.val - b, by omega⟩ : Fin W)) :=
  View.read_writes_cons_unit_of_mem v f inb w L (ix2 p j) (ix2 (⟨p.val - a, by omega⟩ : Fin H) (⟨j.val - b, by omega⟩ : Fin W)) hoff
    (Fin.forall_fin_two.mpr ⟨by show p.val = a + (p.val - a); omega, by show j.val = b + (j.val - b); omega⟩)

/-- The newest store of a list misses the element: the older ones are read. -/
theorem store2_out {R C H W : ℕ} (v : View sig κ sp ⟨2, ![R, C]⟩ e) (f : v.ty.Contents Val) {off : Fin 2 → ℕ}
    (inb : ∀ a : Fin 2, off a + (![H, W] : Fin 2 → ℕ) a ≤ (![R, C] : Fin 2 → ℕ) a)
    (w : (Rect.unit (s := ⟨2, ![R, C]⟩) off ![H, W] inb).shape.Idx → Val e) (L : List (View.Piece Val ⟨2, ![R, C]⟩ e)) {a b : ℕ}
    (hoff : off = ![a, b]) (p : Fin R) (j : Fin C) (h : ¬ ((a ≤ p.val ∧ p.val < a + H) ∧ (b ≤ j.val ∧ j.val < b + W))) :
    v.read Val (v.writes Val f ((⟨Rect.unit (s := ⟨2, ![R, C]⟩) off ![H, W] inb, w⟩ : View.Piece Val ⟨2, ![R, C]⟩ e) :: L)) (ix2 p j)
      = v.read Val (v.writes Val f L) (ix2 p j) := by
  by_cases hp : a ≤ p.val ∧ p.val < a + H
  · refine View.read_writes_cons_unit_of_not_mem v f inb w L (ix2 p j) hoff (1 : Fin 2) ?_
    show j.val < b ∨ b + W ≤ j.val
    omega
  · refine View.read_writes_cons_unit_of_not_mem v f inb w L (ix2 p j) hoff (0 : Fin 2) ?_
    show p.val < a ∨ a + H ≤ p.val
    omega

/-- The newest store covers the element of a three-axis array whose first axis is one long: its payload is read. -/
theorem store3_in {R C H W : ℕ} (v : View sig κ sp ⟨3, ![1, R, C]⟩ e) (f : v.ty.Contents Val) {off : Fin 3 → ℕ}
    (inb : ∀ a : Fin 3, off a + (![1, H, W] : Fin 3 → ℕ) a ≤ (![1, R, C] : Fin 3 → ℕ) a)
    (w : (Rect.unit (s := ⟨3, ![1, R, C]⟩) off ![1, H, W] inb).shape.Idx → Val e) (L : List (View.Piece Val ⟨3, ![1, R, C]⟩ e)) {a b : ℕ}
    (hoff : off = ![0, a, b]) (p : Fin R) (j : Fin C) (hp : a ≤ p.val ∧ p.val < a + H) (hj : b ≤ j.val ∧ j.val < b + W) :
    v.read Val (v.writes Val f ((⟨Rect.unit (s := ⟨3, ![1, R, C]⟩) off ![1, H, W] inb, w⟩ : View.Piece Val ⟨3, ![1, R, C]⟩ e) :: L)) (ix3 0 p j)
      = w (ix3 (0 : Fin 1) (⟨p.val - a, by omega⟩ : Fin H) (⟨j.val - b, by omega⟩ : Fin W)) :=
  View.read_writes_cons_unit_of_mem v f inb w L (ix3 0 p j) (ix3 (0 : Fin 1) (⟨p.val - a, by omega⟩ : Fin H) (⟨j.val - b, by omega⟩ : Fin W)) hoff
    (fun i => match i with
      | ⟨0, _⟩ => rfl
      | ⟨1, _⟩ => by show p.val = a + (p.val - a); omega
      | ⟨2, _⟩ => by show j.val = b + (j.val - b); omega)

/-- The newest store misses the element by its column. -/
theorem store3_out {R C H W : ℕ} (v : View sig κ sp ⟨3, ![1, R, C]⟩ e) (f : v.ty.Contents Val) {off : Fin 3 → ℕ}
    (inb : ∀ a : Fin 3, off a + (![1, H, W] : Fin 3 → ℕ) a ≤ (![1, R, C] : Fin 3 → ℕ) a)
    (w : (Rect.unit (s := ⟨3, ![1, R, C]⟩) off ![1, H, W] inb).shape.Idx → Val e) (L : List (View.Piece Val ⟨3, ![1, R, C]⟩ e)) {a b : ℕ}
    (hoff : off = ![0, a, b]) (p : Fin R) (j : Fin C) (h : ¬ (b ≤ j.val ∧ j.val < b + W)) :
    v.read Val (v.writes Val f ((⟨Rect.unit (s := ⟨3, ![1, R, C]⟩) off ![1, H, W] inb, w⟩ : View.Piece Val ⟨3, ![1, R, C]⟩ e) :: L)) (ix3 0 p j)
      = v.read Val (v.writes Val f L) (ix3 0 p j) := by
  refine View.read_writes_cons_unit_of_not_mem v f inb w L (ix3 0 p j) hoff (2 : Fin 3) ?_
  show j.val < b ∨ b + W ≤ j.val
  omega

end Cert.Reads

end
-- ==== Proof.Spec.lean ====
/- What one point of the grid computes of its block of 128 rows, over the extended reals: the gradient through the
   normalisation, the two partial reductions over the block's rows, and the two quantisations with a power-of-two scale,
   per 128 columns of a row and per column of the block. Rows and columns are natural numbers; a block holds rows below
   128 and columns below 8192. -/
module

public import Idealize.ShloMosaic.Lib.Pointwise

@[expose] public section

noncomputable section

namespace Cert.Spec

open Idealize.ShloMosaic

/-- The inputs of a block: the rows `x`, the three gradients that are summed, the gradient of the residual branch, the
    reciprocal norms of the rows and the weights of the columns. -/
structure Blk where
  x : ℕ → ℕ → EReal
  q : ℕ → ℕ → EReal
  k : ℕ → ℕ → EReal
  v : ℕ → ℕ → EReal
  dr : ℕ → ℕ → EReal
  r : ℕ → EReal
  γ : ℕ → EReal

namespace Blk

variable (B : Blk)

/-- The summed gradient times the row's reciprocal norm. -/
def nr (p j : ℕ) : EReal := ((B.q p j + B.k p j) + B.v p j) * B.r p

/-- … times the column's weight. -/
def g (p j : ℕ) : EReal := B.nr p j * B.γ j

/-- The term of the weight's gradient. -/
def nx (p j : ℕ) : EReal := B.nr p j * B.x p j

/-- Four rows' terms of the weight's gradient, eight rows apart. -/
def nx4 (a s j : ℕ) : EReal := ((B.nx (a + s) j + B.nx (a + (8 + s)) j) + B.nx (a + (16 + s)) j) + B.nx (a + (24 + s)) j

/-- The term of the row's correction. -/
def gx (p j : ℕ) : EReal := B.g p j * B.x p j

/-- The row's correction, spread to where it multiplies `x`. -/
def kk (p : ℕ) : EReal :=
  (B.r p * ((∑ l : Fin 128, ∑ u ∈ Finset.range 64, B.gx p (128 * u + l.val)) * Ideal.ofBits .f32 0x39000000#32)) * B.r p

/-- The gradient of the block's rows. -/
def dx (p j : ℕ) : EReal := (B.g p j - B.x p j * B.kk p) + B.dr p j

/-- Its magnitude. -/
def ab (p j : ℕ) : EReal := FloatOps.absf (F := Ideal) (φ := .f32) (B.dx p j)

/-- Four rows' greatest magnitude, eight rows apart. -/
def ab4 (a s j : ℕ) : EReal := max (max (max (B.ab (a + s) j) (B.ab (a + (8 + s)) j)) (B.ab (a + (16 + s)) j)) (B.ab (a + (24 + s)) j)

end Blk

/-! ## The quantiser -/

/-- One step of the search for the exponent: `s` is added to the word if the sum is still at most `m`. -/
def sstep (m : EReal) (b s : BitVec 32) : BitVec 32 :=
  Scalar.select (FloatOps.cmpf (F := Ideal) (φ := .f32) .ole (FloatOps.ofBits (F := Ideal) .f32 (IntOp.addi b s : BitVec 32)) m) (IntOp.addi b s) b

/-- The first seven steps. -/
def sfirst (m : EReal) : BitVec 32 :=
  sstep m (sstep m (sstep m (sstep m (sstep m (sstep m (sstep m 0#32 1073741824#32) 536870912#32) 268435456#32) 134217728#32)
    67108864#32) 33554432#32) 16777216#32

/-- The exponent field of the greatest power of two that is at most `m`, the field of all ones for the greatest finite
    power of two and above. -/
def ebits (m : EReal) : BitVec 32 :=
  Scalar.select (FloatOps.cmpf (F := Ideal) (φ := .f32) .olt m (FloatOps.ofBits (F := Ideal) .f32 2130706432#32))
    (sstep m (sfirst m) 8388608#32) 2139095040#32

/-- Whether a field means no scaling. -/
def trivialBits (b : BitVec 32) : BitVec 1 := IntOp.ori (IntOp.cmpi .eq b 0#32) (IntOp.cmpi .eq b 2139095040#32)

/-- The scale of a field. -/
def scaleOf (b : BitVec 32) : EReal :=
  Scalar.select (trivialBits b) (FloatOps.ofBits (F := Ideal) .f32 0x3F800000#32) (FloatOps.ofBits (F := Ideal) .f32 (IntOp.addi b 8388608#32 : BitVec 32))

/-- Its inverse. -/
def inverseOf (b : BitVec 32) : EReal :=
  Scalar.select (trivialBits b) (FloatOps.ofBits (F := Ideal) .f32 0x3F800000#32) (FloatOps.ofBits (F := Ideal) .f32 (IntOp.subi 2122317824#32 b : BitVec 32))

/-- A value times the inverse scale, clipped. -/
def quant (b : BitVec 32) (d : EReal) : EReal :=
  min (Ideal.ofBits .f32 0x43E00000#32) (max (Ideal.ofBits .f32 0xC3E00000#32) (d * inverseOf b))

namespace Blk

variable (B : Blk)

/-- The field of a row's 128 columns `128 u …`. -/
def rowBits (p u : ℕ) : BitVec 32 :=
  ebits (Finset.univ.fold max (Ideal.ofBits .f32 0xFF800000#32) (fun l : Fin 128 => B.ab p (128 * u + l.val)) * Ideal.ofBits .f32 0x3B124925#32)

/-- Each eighth row's sum, from the rows up to `8 t`. -/
def dgUpTo (t s j : ℕ) : EReal := ∑ a ∈ Finset.range t, B.nx (8 * a + s) j

/-- Each eighth row's greatest magnitude, from the rows up to `8 t`. -/
def cmUpTo (t s j : ℕ) : EReal := (Finset.range t).fold max 0 (fun a => B.ab (8 * a + s) j)

/-- The block's part of the weight's gradient. -/
def part (j : ℕ) : EReal := ∑ s : Fin 8, B.dgUpTo 16 s.val j

/-- The field of a column. -/
def colBits (j : ℕ) : BitVec 32 :=
  ebits (Finset.univ.fold max (Ideal.ofBits .f32 0xFF800000#32) (fun s : Fin 8 => B.cmUpTo 16 s.val j) * Ideal.ofBits .f32 0x3B124925#32)

end Blk

end Cert.Spec

end
-- ==== Proof.PayA.lean ====
/- The values the first pass over the columns computes, read at one element. -/
module

public import proofs.«01_k».proof.Proof.Gen.KernelIdeal.Skeleton
public import Idealize.ShloMosaic.Lib.Pointwise
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

variable (B : Blk) (a b : ℕ) (v34 : Vec Ideal S32x128 .f32) (v67 v72 v77 v83 : Vec Ideal S32x256 .bf16) (v94 : Vec Ideal S1x128 .f32)
variable (h34 : ∀ p l, v34 (ix2 p l) = B.r (a + p.val)) (h67 : ∀ p l, v67 (ix2 p l) = B.x (a + p.val) (b + l.val))
  (h72 : ∀ p l, v72 (ix2 p l) = B.q (a + p.val) (b + l.val)) (h77 : ∀ p l, v77 (ix2 p l) = B.k (a + p.val) (b + l.val))
  (h83 : ∀ p l, v83 (ix2 p l) = B.v (a + p.val) (b + l.val))

include h34 h72 h77 h83

/-- The weighted gradient of the first half of the columns. -/
theorem pay8_at (h94 : ∀ l, v94 (ix2 0 l) = B.γ (b + l.val)) (p : Fin 32) (l : Fin 128) :
    k0_pay8 (F := Ideal) v34 v72 v77 v83 v94 (ix2 p l) = B.g (a + p.val) (b + l.val) := by
  pointwise [k0_pay8, k0_pay7, k0_pay6, k0_pay4]
  simp only [h34, h72, h77, h83, h94]
  rfl

/-- The weighted gradient of the second half. -/
theorem pay59_at (h94 : ∀ l, v94 (ix2 0 l) = B.γ (b + (128 + l.val))) (p : Fin 32) (l : Fin 128) :
    k0_pay59 (F := Ideal) v34 (k0_pay4 v72 v77 v83) v94 (ix2 p l) = B.g (a + p.val) (b + (128 + l.val)) := by
  pointwise [k0_pay59, k0_pay58, k0_pay57, k0_pay4]
  simp only [h34, h72, h77, h83, h94]
  rfl

include h67

/-- The weight's gradient accumulated over four rows, first half of the columns. -/
theorem pay55_at (v103 : Vec Ideal S8x128 .f32) (s : Fin 8) (l : Fin 128) :
    k0_pay55 (F := Ideal) (k0_pay9 v34 v67 v72 v77 v83 v103) (ix2 s l) = v103 (ix2 s l) + B.nx4 a s.val (b + l.val) := by
  pointwise [k0_pay55, k0_pay9, k0_pay6, k0_pay5, k0_pay4, k0_pay3]
  simp only [h34, h67, h72, h77, h83]
  rfl

/-- The same, second half. -/
theorem pay60_at (v135 : Vec Ideal S8x128 .f32) (s : Fin 8) (l : Fin 128) :
    k0_pay60 (F := Ideal) v34 (k0_pay3 v67) (k0_pay4 v72 v77 v83) v135 (ix2 s l) = v135 (ix2 s l) + B.nx4 a s.val (b + (128 + l.val)) := by
  pointwise [k0_pay60, k0_pay57, k0_pay56, k0_pay4, k0_pay3]
  simp only [h34, h67, h72, h77, h83]
  rfl

/-- The row's correction accumulated over two groups of columns. -/
theorem pay61_at (acc : FVec Ideal S32x128 .f32) (v94' : Vec Ideal S1x128 .f32) (h94 : ∀ l, v94 (ix2 0 l) = B.γ (b + l.val))
    (h94' : ∀ l, v94' (ix2 0 l) = B.γ (b + (128 + l.val))) (p : Fin 32) (l : Fin 128) :
    k0_pay61 (F := Ideal) v34 acc (k0_pay3 v67) (k0_pay4 v72 v77 v83) (k0_pay5 v67) (k0_pay7 v34 v72 v77 v83 v94) v94' (ix2 p l)
      = (acc (ix2 p l) + B.gx (a + p.val) (b + l.val)) + B.gx (a + p.val) (b + (128 + l.val)) := by
  pointwise [k0_pay61, k0_pay58, k0_pay57, k0_pay56, k0_pay7, k0_pay6, k0_pay5, k0_pay4, k0_pay3]
  simp only [h34, h67, h72, h77, h83, h94, h94']
  rfl

omit h34 h67 h72 h77 h83

/-- The row's correction from the accumulated groups. -/
theorem pay62_at (h34 : ∀ p l, v34 (ix2 p l) = B.r (a + p.val)) (v37 : FVec Ideal S32x128 .f32)
    (h37 : ∀ (p : Fin 32) (l : Fin 128), v37 (ix2 p l) = ∑ u ∈ Finset.range 64, B.gx (a + p.val) (128 * u + l.val)) (p : Fin 32) (l : Fin 128) :
    k0_pay62 (F := Ideal) v34 v37 (ix2 p l) = B.kk (a + p.val) := by
  pointwise [k0_pay62]
  simp only [h34, h37]
  rfl

theorem pay54_at (p : Fin 32) (l : Fin 128) : k0_pay54 (F := Ideal) (ix2 p l) = 0 := by
  pointwise [k0_pay54]

theorem pay51_at (v0 : Vec Ideal S1x1x128 .f32) (h : ∀ l, v0 (ix3 0 0 l) = B.r l.val) (p l : Fin 128) :
    k0_pay51 (F := Ideal) v0 (ix2 p l) = B.r p.val := by
  pointwise [k0_pay51]
  exact h p

theorem pay52_at (s : Fin 8) (l : Fin 8192) : k0_pay52 (F := Ideal) (ix2 s l) = 0 := by
  pointwise [k0_pay52]

theorem pay53_at (s : Fin 8) (l : Fin 8192) : k0_pay53 (F := Ideal) (ix2 s l) = 0 := by
  pointwise [k0_pay53]

end Cert.KernelIdeal.Hand

end
-- ==== Proof.Offs.lean ====
/- The corners of the rectangles the loops read and write, at the two halves of a group of 256 columns. -/
module

public import proofs.«01_k».proof.Proof.Gen.KernelIdeal.Skeleton
public import proofs.«01_k».proof.Proof.Spec

@[expose] public section

set_option maxRecDepth 16384

namespace Cert.KernelIdeal.Hand

open Cert.KernelIdeal Cert.KernelIdeal.Gen Cert.Spec
open Idealize.ShloMosaic

theorem off3_0 (k : Fin k0_t2_loop.trips) : k0_off3 k 0#32 = ![0, 256 * k.val + 0] := k0_off3_eq k 0
theorem off3_1 (k : Fin k0_t2_loop.trips) : k0_off3 k 128#32 = ![0, 256 * k.val + 128] := k0_off3_eq k 1
theorem off4_0 (k : Fin k0_t2_loop.trips) : k0_off4 k 0#32 = ![0, 256 * k.val + 0] := k0_off4_eq k 0
theorem off4_1 (k : Fin k0_t2_loop.trips) : k0_off4 k 128#32 = ![0, 256 * k.val + 128] := k0_off4_eq k 1
theorem off5_0 (k : Fin k0_t2_loop.trips) : k0_off5 k 0#32 = ![0, 256 * k.val + 0] := k0_off5_eq k 0
theorem off5_1 (k : Fin k0_t2_loop.trips) : k0_off5 k 128#32 = ![0, 256 * k.val + 128] := k0_off5_eq k 1
theorem off7_0 (k : Fin k0_t3_loop.trips) : k0_off7 k 0#32 = ![0, 256 * k.val + 0] := k0_off7_eq k 0
theorem off7_1 (k : Fin k0_t3_loop.trips) : k0_off7 k 128#32 = ![0, 256 * k.val + 128] := k0_off7_eq k 1
theorem off9_0 (k : Fin k0_t3_loop.trips) : k0_off9 k 0#32 = ![0, 256 * k.val + 0] := k0_off9_eq k 0
theorem off9_1 (k : Fin k0_t3_loop.trips) : k0_off9 k 128#32 = ![0, 256 * k.val + 128] := k0_off9_eq k 1
theorem off8_0 (k1 : Fin k0_t1_loop.trips) (k : Fin k0_t3_loop.trips) : k0_off8 k1 k 0#32 = ![32 * k1.val, 256 * k.val + 0] := k0_off8_eq k1 k 0
theorem off8_1 (k1 : Fin k0_t1_loop.trips) (k : Fin k0_t3_loop.trips) : k0_off8 k1 k 128#32 = ![32 * k1.val, 256 * k.val + 128] := k0_off8_eq k1 k 1

/-- Four more rows' terms of the weight's gradient. -/
theorem dgUpTo_add (B : Blk) (k s j : ℕ) : B.dgUpTo (4 * k + 4) s j = B.dgUpTo (4 * k) s j + B.nx4 (32 * k) s j := by
  unfold Blk.dgUpTo Blk.nx4
  rw [Finset.sum_range_succ, Finset.sum_range_succ, Finset.sum_range_succ, Finset.sum_range_succ]
  rw [show 8 * (4 * k) + s = 32 * k + s by omega, show 8 * (4 * k + 1) + s = 32 * k + (8 + s) by omega,
    show 8 * (4 * k + 2) + s = 32 * k + (16 + s) by omega, show 8 * (4 * k + 3) + s = 32 * k + (24 + s) by omega]
  simp only [add_assoc]

/-- Four more rows' magnitudes. -/
theorem cmUpTo_add (B : Blk) (k s j : ℕ) : B.cmUpTo (4 * k + 4) s j = max (B.cmUpTo (4 * k) s j) (B.ab4 (32 * k) s j) := by
  unfold Blk.cmUpTo Blk.ab4
  rw [Finset.range_add_one, Finset.fold_insert Finset.notMem_range_self, Finset.range_add_one, Finset.fold_insert Finset.notMem_range_self,
    Finset.range_add_one, Finset.fold_insert Finset.notMem_range_self, Finset.range_add_one, Finset.fold_insert Finset.notMem_range_self]
  rw [show 8 * (4 * k) + s = 32 * k + s by omega, show 8 * (4 * k + 1) + s = 32 * k + (8 + s) by omega,
    show 8 * (4 * k + 2) + s = 32 * k + (16 + s) by omega, show 8 * (4 * k + 3) + s = 32 * k + (24 + s) by omega]
  simp only [max_assoc, max_comm, max_left_comm]

end Cert.KernelIdeal.Hand
-- ==== Proof.T2.lean ====
/- The first pass over a group of 32 rows: the weighted gradient, its correction, and the weight's gradient. -/
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.Reads
public import proofs.«01_k».proof.Proof.Spec
public import proofs.«01_k».proof.Proof.PayA
public import proofs.«01_k».proof.Proof.Offs

@[expose] public section

set_option maxRecDepth 16384

noncomputable section

namespace Cert.KernelIdeal.Hand

open Cert.KernelIdeal Cert.KernelIdeal.Gen Cert.Spec Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
variable (arg1 : Memref sig .tc .vmem S128x8192 .bf16) (harg1 : arg1.IsWhole) (arg2 : Memref sig .tc .vmem S1x1x128 .f32) (harg2 : arg2.IsWhole) (arg3 : Memref sig .tc .vmem S1x8192 .f32) (harg3 : arg3.IsWhole)
  (arg4 : Memref sig .tc .vmem S128x8192 .bf16) (harg4 : arg4.IsWhole) (arg5 : Memref sig .tc .vmem S128x8192 .bf16) (harg5 : arg5.IsWhole) (arg6 : Memref sig .tc .vmem S128x8192 .bf16) (harg6 : arg6.IsWhole)
  (arg7 : Memref sig .tc .vmem S128x8192 .bf16) (harg7 : arg7.IsWhole) (arg8 : Memref sig .tc .vmem S128x8192 .bf16) (harg8 : arg8.IsWhole) (arg9 : Memref sig .tc .vmem S1x8192 .f32) (harg9 : arg9.IsWhole)
  (arg10 : Memref sig .tc .vmem S1x8x8192 .f32) (harg10 : arg10.IsWhole) (arg11 : Memref sig .tc .vmem S128x8192 .fp8e4m3) (harg11 : arg11.IsWhole) (arg12 : Memref sig .tc .vmem S128x64 .f32) (harg12 : arg12.IsWhole)
  (arg13 : Memref sig .tc .vmem S128x8192 .fp8e4m3) (harg13 : arg13.IsWhole) (arg14 : Memref sig .tc .vmem S1x8x8192 .f32) (harg14 : arg14.IsWhole) (arg15 : Memref sig .tc .vmem S32x8192 .f32) (harg15 : arg15.IsWhole)
  (arg16 : Memref sig .tc .vmem S128x8192 .f32) (harg16 : arg16.IsWhole) (arg17 : Memref sig .tc .vmem S128x128 .f32) (harg17 : arg17.IsWhole)
  (arg18 : Memref sig .tc .vmem S8x8192 .f32) (harg18 : arg18.IsWhole) (arg19 : Memref sig .tc .vmem S8x8192 .f32) (harg19 : arg19.IsWhole)
variable (B : Blk) (X1 : BufTy.Contents (Elt Ideal) arg1.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty)

/-- What holds before each trip of the first pass: the inputs; the weighted gradient of the columns passed; the terms of
    the weight's gradient added at the columns passed; the rows' corrections over the groups of columns passed. -/
def inv2 (k1 k : ℕ) (acc : FVec Ideal S32x128 .f32) : sProp 𝕄 :=
  iprop((arg1.view.loc (c : Thread nD τ) ↦[arg1.view.set]{fullShare} X1) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg15.view.loc (c : Thread nD τ) ↦[arg15.view.set]{fullShare} f) ∗ ⌜∀ (p : Fin 32) (j : Fin 8192), j.val < 256 * k → arg15.view.read (Elt Ideal) f (ix2 p j) = B.g (32 * k1 + p.val) j.val⌝)
    ∗ (∃ f, (arg18.view.loc (c : Thread nD τ) ↦[arg18.view.set]{fullShare} f) ∗ ⌜∀ (s : Fin 8) (j : Fin 8192), arg18.view.read (Elt Ideal) f (ix2 s j) = if j.val < 256 * k then B.dgUpTo (4 * k1 + 4) s.val j.val else B.dgUpTo (4 * k1) s.val j.val⌝)
    ∗ ⌜∀ (p : Fin 32) (l : Fin 128), acc (ix2 p l) = ∑ u ∈ Finset.range (2 * k), B.gx (32 * k1 + p.val) (128 * u + l.val)⌝)

set_option warn.classDefReducibility false in
/-- The first pass over the columns, as an invariant. -/
def loop2 (hX1 : ∀ p j, arg1.view.read (Elt Ideal) X1 (ix2 p j) = B.x p.val j.val)
    (hX5 : ∀ p j, arg5.view.read (Elt Ideal) X5 (ix2 p j) = B.q p.val j.val)
    (hX6 : ∀ p j, arg6.view.read (Elt Ideal) X6 (ix2 p j) = B.k p.val j.val)
    (hX7 : ∀ p j, arg7.view.read (Elt Ideal) X7 (ix2 p j) = B.v p.val j.val)
    (hX3 : ∀ j, arg3.view.read (Elt Ideal) X3 (ix2 0 j) = B.γ j.val)
    (k1 : Fin k0_t1_loop.trips) (v32 : BitVec 32) (v34 : Vec Ideal S32x128 .f32) (h34 : ∀ p l, v34 (ix2 p l) = B.r (32 * k1.val + p.val)) (init : FVec Ideal S32x128 .f32) :
    Idealize.ShloMosaic.LoopInv (M := 𝕄) Idealize.ShloMosaic.frame (wpE (defs₀ (F := Ideal)) Variants.none (c : Thread nD τ) none) Set.univ
      k0_t2_loop.lb k0_t2_loop.ub k0_t2_loop.st k0_t2_ok init (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1 v32 v34) where
  inv := inv2 c arg1 arg3 arg5 arg6 arg7 arg15 arg18 B X1 X3 X5 X6 X7 k1.val
  step := fun k acc => by
    unfold k0_t2_body inv2
    have hk1 : k1.val < 4 := lt_of_lt_of_le k1.isLt k0_t1_abs.2.1
    have hk : k.val < 32 := lt_of_lt_of_le k.isLt k0_t2_abs.2.1
    iintro ⟨H1, H3, H5, H6, H7, ⟨%f15, H15, %h15⟩, ⟨%f18, H18, %h18⟩, %hacc⟩
    sl_exec
    sl_step
    have e67 : ∀ (p : Fin 32) (l : Fin 256), arg1.view.readAt (Elt Ideal) (Rect.unit (s := S128x8192) (k0_off2 k1 k) S32x256.size (k0_off2_inb k1 k)).toLoadRect X1 (ix2 p l) = B.x (32 * k1.val + p.val) (256 * k.val + l.val) :=
      fun p l => (load2 _ _ _ (k0_off2_eq k1 k) p l (by omega) (by omega)).trans (hX1 _ _)
    have e72 : ∀ (p : Fin 32) (l : Fin 256), arg5.view.readAt (Elt Ideal) (Rect.unit (s := S128x8192) (k0_off2 k1 k) S32x256.size (k0_off2_inb k1 k)).toLoadRect X5 (ix2 p l) = B.q (32 * k1.val + p.val) (256 * k.val + l.val) :=
      fun p l => (load2 _ _ _ (k0_off2_eq k1 k) p l (by omega) (by omega)).trans (hX5 _ _)
    have e77 : ∀ (p : Fin 32) (l : Fin 256), arg6.view.readAt (Elt Ideal) (Rect.unit (s := S128x8192) (k0_off2 k1 k) S32x256.size (k0_off2_inb k1 k)).toLoadRect X6 (ix2 p l) = B.k (32 * k1.val + p.val) (256 * k.val + l.val) :=
      fun p l => (load2 _ _ _ (k0_off2_eq k1 k) p l (by omega) (by omega)).trans (hX6 _ _)
    have e83 : ∀ (p : Fin 32) (l : Fin 256), arg7.view.readAt (Elt Ideal) (Rect.unit (s := S128x8192) (k0_off2 k1 k) S32x256.size (k0_off2_inb k1 k)).toLoadRect X7 (ix2 p l) = B.v (32 * k1.val + p.val) (256 * k.val + l.val) :=
      fun p l => (load2 _ _ _ (k0_off2_eq k1 k) p l (by omega) (by omega)).trans (hX7 _ _)
    have e94 : ∀ (l : Fin 128), arg3.view.readAt (Elt Ideal) (Rect.unit (s := S1x8192) (k0_off3 k 0#32) S1x128.size (k0_off3_inb k 0)).toLoadRect X3 (ix2 0 l) = B.γ (256 * k.val + l.val) :=
      fun l => (load2 (R := 1) (C := 8192) _ _ _ (off3_0 k) 0 l (by decide) (by omega)).trans ((hX3 _).trans (congrArg B.γ (by first | omega | (dsimp only; omega))))
    have e94' : ∀ (l : Fin 128), arg3.view.readAt (Elt Ideal) (Rect.unit (s := S1x8192) (k0_off3 k 128#32) S1x128.size (k0_off3_inb k 1)).toLoadRect X3 (ix2 0 l) = B.γ (256 * k.val + (128 + l.val)) :=
      fun l => (load2 (R := 1) (C := 8192) _ _ _ (off3_1 k) 0 l (by decide) (by omega)).trans ((hX3 _).trans (congrArg B.γ (by first | omega | (dsimp only; omega))))
    isplitl [H1]; · iexact H1
    isplitl [H3]; · iexact H3
    isplitl [H5]; · iexact H5
    isplitl [H6]; · iexact H6
    isplitl [H7]; · iexact H7
    isplitl [H15]
    · iexists _; isplitl; · iexact H15
      ipureintro
      intro p j hj
      by_cases hb : 256 * k.val + 128 ≤ j.val
      · refine (store2_in (H := 32) (W := 128) _ _ _ _ _ (off4_1 k) p j (by omega) (by omega)).trans ?_
        refine (pay59_at B (32 * k1.val) (256 * k.val) _ _ _ _ _ h34 e72 e77 e83 e94' _ _).trans ?_
        exact congrArg₂ B.g (by first | omega | (dsimp only; omega)) (by first | omega | (dsimp only; omega))
      refine (store2_out (H := 32) (W := 128) _ _ _ _ _ (off4_1 k) p j (by omega)).trans ?_
      by_cases hc : 256 * k.val ≤ j.val
      · refine (store2_in (H := 32) (W := 128) _ _ _ _ _ (off4_0 k) p j (by omega) (by omega)).trans ?_
        refine (pay8_at B (32 * k1.val) (256 * k.val) _ _ _ _ _ h34 e72 e77 e83 e94 _ _).trans ?_
        exact congrArg₂ B.g (by first | omega | (dsimp only; omega)) (by first | omega | (dsimp only; omega))
      refine (store2_out (H := 32) (W := 128) _ _ _ _ _ (off4_0 k) p j (by omega)).trans ?_
      rw [View.writes_nil]
      exact h15 p j (by omega)
    isplitl [H18]
    · iexists _; isplitl; · iexact H18
      ipureintro
      intro s j
      by_cases hd : 256 * k.val + 256 ≤ j.val
      · rw [if_neg (by omega)]
        refine (store2_out (H := 8) (W := 128) _ _ _ _ _ (off5_1 k) s j (by omega)).trans ?_
        refine (store2_out (H := 8) (W := 128) _ _ _ _ _ (off5_0 k) s j (by omega)).trans ?_
        rw [View.writes_nil, h18, if_neg (by omega)]
      rw [if_pos (by omega)]
      by_cases hb : 256 * k.val + 128 ≤ j.val
      · refine (store2_in (H := 8) (W := 128) _ _ _ _ _ (off5_1 k) s j (by omega) (by omega)).trans ?_
        refine (pay60_at B (32 * k1.val) (256 * k.val) _ _ _ _ _ h34 e67 e72 e77 e83 _ _ _).trans ?_
        refine (congrArg (· + _) ((load2 _ _ _ (off5_1 k) _ _ (by omega) (by first | omega | (dsimp only; omega))).trans (h18 _ _))).trans ?_
        rw [if_neg (by first | omega | (dsimp only; omega)), dgUpTo_add]
        exact congrArg₂ (· + ·) (congrArg₂ (B.dgUpTo _) (by first | omega | (dsimp only; omega)) (by first | omega | (dsimp only; omega))) (congrArg₂ (B.nx4 _) (by first | omega | (dsimp only; omega)) (by first | omega | (dsimp only; omega)))
      refine (store2_out (H := 8) (W := 128) _ _ _ _ _ (off5_1 k) s j (by omega)).trans ?_
      by_cases hc : 256 * k.val ≤ j.val
      · refine (store2_in (H := 8) (W := 128) _ _ _ _ _ (off5_0 k) s j (by omega) (by omega)).trans ?_
        refine (pay55_at B (32 * k1.val) (256 * k.val) _ _ _ _ _ h34 e67 e72 e77 e83 _ _ _).trans ?_
        refine (congrArg (· + _) ((load2 _ _ _ (off5_0 k) _ _ (by omega) (by first | omega | (dsimp only; omega))).trans (h18 _ _))).trans ?_
        rw [if_neg (by first | omega | (dsimp only; omega)), dgUpTo_add]
        exact congrArg₂ (· + ·) (congrArg₂ (B.dgUpTo _) (by first | omega | (dsimp only; omega)) (by first | omega | (dsimp only; omega))) (congrArg₂ (B.nx4 _) (by first | omega | (dsimp only; omega)) (by first | omega | (dsimp only; omega)))
      refine (store2_out (H := 8) (W := 128) _ _ _ _ _ (off5_0 k) s j (by omega)).trans ?_
      rw [View.writes_nil, h18, if_pos (by omega)]
    ipureintro
    intro p l
    refine (pay61_at B (32 * k1.val) (256 * k.val) _ _ _ _ _ _ h34 e67 e72 e77 e83 _ _ e94 e94' p l).trans ?_
    rw [hacc, show 2 * (k.val + 1) = 2 * k.val + 1 + 1 by omega, Finset.sum_range_succ, Finset.sum_range_succ]
    exact congrArg₂ (· + ·) (congrArg (_ + ·) (congrArg (B.gx _) (by omega))) (congrArg (B.gx _) (by omega))

/-- Going through the loop: its invariant at the start, then the rest from its invariant at the end. -/
theorem enter2 (hX1 : ∀ p j, arg1.view.read (Elt Ideal) X1 (ix2 p j) = B.x p.val j.val)
    (hX5 : ∀ p j, arg5.view.read (Elt Ideal) X5 (ix2 p j) = B.q p.val j.val)
    (hX6 : ∀ p j, arg6.view.read (Elt Ideal) X6 (ix2 p j) = B.k p.val j.val)
    (hX7 : ∀ p j, arg7.view.read (Elt Ideal) X7 (ix2 p j) = B.v p.val j.val)
    (hX3 : ∀ j, arg3.view.read (Elt Ideal) X3 (ix2 0 j) = B.γ j.val)
    (k1 : Fin k0_t1_loop.trips) (v32 : BitVec 32) (v34 : Vec Ideal S32x128 .f32) (h34 : ∀ p l, v34 (ix2 p l) = B.r (32 * k1.val + p.val)) (init : FVec Ideal S32x128 .f32) {β : Type} {kk : FVec Ideal S32x128 .f32 → Prog (TpuEff nD τ sig (Elt Ideal) Λ₀ .tc) β} {Q : β → sProp 𝕄} :
    inv2 c arg1 arg3 arg5 arg6 arg7 arg15 arg18 B X1 X3 X5 X6 X7 k1.val 0 init ⊢ iprop((∀ acc, inv2 c arg1 arg3 arg5 arg6 arg7 arg15 arg18 B X1 X3 X5 X6 X7 k1.val 32 acc -∗ wp Idealize.ShloMosaic.frame (wpE (defs₀ (F := Ideal)) Variants.none (c : Thread nD τ) none) Set.univ (kk acc) Q)
      -∗ wp Idealize.ShloMosaic.frame (wpE (defs₀ (F := Ideal)) Variants.none (c : Thread nD τ) none) Set.univ (Scf.Loop.for k0_t2_loop k0_t2_ok init (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1 v32 v34) >>= kk) Q) := by
  have t : Scf.trips k0_t2_loop.lb k0_t2_loop.ub k0_t2_loop.st = 32 := by decide
  have h := exec_loop _ _ _ _ _ _ _ _ _ (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B X1 X3 X5 X6 X7 hX1 hX5 hX6 hX7 hX3 k1 v32 v34 h34 init) (kk := kk) (Q := Q)
  rw [t] at h
  exact h

end Cert.KernelIdeal.Hand

end
-- ==== Proof.PayB.lean ====
/- The values the second pass over the columns computes, read at one element. -/
module

public import proofs.«01_k».proof.Proof.Gen.KernelIdeal.Skeleton
public import Idealize.ShloMosaic.Lib.Pointwise
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

variable (B : Blk) (a b : ℕ) (v44 v79 : FVec Ideal S32x128 .f32) (v67 v72 : Vec Ideal S32x256 .bf16)
variable (h44 : ∀ p l, v44 (ix2 p l) = B.kk (a + p.val)) (h67 : ∀ p l, v67 (ix2 p l) = B.x (a + p.val) (b + l.val))
  (h72 : ∀ p l, v72 (ix2 p l) = B.dr (a + p.val) (b + l.val))

include h44 h67 h72

/-- The gradient, first half of the columns. -/
theorem pay12_at (h79 : ∀ p l, v79 (ix2 p l) = B.g (a + p.val) (b + l.val)) (p : Fin 32) (l : Fin 128) :
    k0_pay12 (F := Ideal) v44 v67 v72 v79 (ix2 p l) = B.dx (a + p.val) (b + l.val) := by
  pointwise [k0_pay12, k0_pay11, k0_pay10]
  simp only [h44, h67, h72, h79]
  rfl

/-- The gradient, second half. -/
theorem pay25_at (h79 : ∀ p l, v79 (ix2 p l) = B.g (a + p.val) (b + (128 + l.val))) (p : Fin 32) (l : Fin 128) :
    k0_pay25 (F := Ideal) v44 (k0_pay10 v67) (k0_pay11 v72) v79 (ix2 p l) = B.dx (a + p.val) (b + (128 + l.val)) := by
  pointwise [k0_pay25, k0_pay11, k0_pay10]
  simp only [h44, h67, h72, h79]
  rfl

omit h44 h67 h72

/-- The gradient as stored is the gradient. -/
theorem pay13_at (p : Fin 32) (l : Fin 128) : k0_pay13 (F := Ideal) v44 v67 v72 v79 (ix2 p l) = k0_pay12 v44 v67 v72 v79 (ix2 p l) := by
  rw [k0_pay13]
  generalize k0_pay12 v44 v67 v72 v79 = w
  pointwise

theorem pay26_at (v69 v74 : FVec Ideal S32x256 .f32) (p : Fin 32) (l : Fin 128) :
    k0_pay26 (F := Ideal) v44 v69 v74 v79 (ix2 p l) = k0_pay25 v44 v69 v74 v79 (ix2 p l) := by
  rw [k0_pay26]
  generalize k0_pay25 v44 v69 v74 v79 = w
  pointwise

/-- The magnitudes' running maximum over four rows, first half. -/
theorem pay15_at (h12 : ∀ p l, k0_pay12 (F := Ideal) v44 v67 v72 v79 (ix2 p l) = B.dx (a + p.val) (b + l.val)) (v92 : Vec Ideal S8x128 .f32) (s : Fin 8) (l : Fin 128) :
    k0_pay15 (F := Ideal) v44 v67 v72 v79 v92 (ix2 s l) = max (v92 (ix2 s l)) (B.ab4 a s.val (b + l.val)) := by
  simp only [k0_pay15, k0_pay14]
  generalize k0_pay12 v44 v67 v72 v79 = w at h12
  pointwise
  simp only [h12]
  rfl

/-- The same, second half. -/
theorem pay30_at (v69 v74 : FVec Ideal S32x256 .f32) (h25 : ∀ p l, k0_pay25 (F := Ideal) v44 v69 v74 v79 (ix2 p l) = B.dx (a + p.val) (b + (128 + l.val)))
    (v92 : Vec Ideal S8x128 .f32) (s : Fin 8) (l : Fin 128) :
    k0_pay30 (F := Ideal) v92 (k0_pay28 v44 v69 v74 v79) (k0_pay29 v44 v69 v74 v79) (ix2 s l) = max (v92 (ix2 s l)) (B.ab4 a s.val (b + (128 + l.val))) := by
  simp only [k0_pay30, k0_pay28, k0_pay29, k0_pay27]
  generalize k0_pay25 v44 v69 v74 v79 = w at h25
  pointwise
  simp only [h25]
  rfl

/-- A row's greatest magnitude over 128 columns, divided by the greatest value of the target, first half. -/
theorem pay16_at (h12 : ∀ p l, k0_pay12 (F := Ideal) v44 v67 v72 v79 (ix2 p l) = B.dx (a + p.val) (b + l.val)) (p : Fin 32) (l : Fin 128) :
    k0_pay16 (F := Ideal) v44 v67 v72 v79 (ix2 p l)
      = Finset.univ.fold max (Ideal.ofBits .f32 0xFF800000#32) (fun x : Fin 128 => B.ab (a + p.val) (b + x.val)) * Ideal.ofBits .f32 0x3B124925#32 := by
  simp only [k0_pay16, k0_pay14]
  generalize k0_pay12 v44 v67 v72 v79 = w at h12
  pointwise
  simp only [h12]
  rfl

/-- The same, second half. -/
theorem pay31_at (v69 v74 : FVec Ideal S32x256 .f32) (h25 : ∀ p l, k0_pay25 (F := Ideal) v44 v69 v74 v79 (ix2 p l) = B.dx (a + p.val) (b + (128 + l.val)))
    (p : Fin 32) (l : Fin 128) :
    k0_pay31 (F := Ideal) (k0_pay27 v44 v69 v74 v79) (ix2 p l)
      = Finset.univ.fold max (Ideal.ofBits .f32 0xFF800000#32) (fun x : Fin 128 => B.ab (a + p.val) (b + (128 + x.val))) * Ideal.ofBits .f32 0x3B124925#32 := by
  simp only [k0_pay31, k0_pay27]
  generalize k0_pay25 v44 v69 v74 v79 = w at h25
  pointwise
  simp only [h25]
  rfl

/-- The two halves side by side. -/
theorem pay40_at (w w' : FVec Ideal S32x128 .f32) (G : ℕ → EReal) (p : Fin 32) (h : ∀ l : Fin 128, w (ix2 p l) = G l.val)
    (h' : ∀ l : Fin 128, w' (ix2 p l) = G (128 + l.val)) (l : Fin 256) : k0_pay40 (F := Ideal) w w' (ix2 p l) = G l.val := by
  pointwise [k0_pay40]
  split
  · exact h _
  · rw [h']
    congr 1
    show 128 + (l.val - 128) = l.val
    omega

end Cert.KernelIdeal.Hand

end
-- ==== Proof.PayC.lean ====
/- The values the search for the exponent computes, read at one element. -/
module

public import proofs.«01_k».proof.Proof.Gen.KernelIdeal.Skeleton
public import Idealize.ShloMosaic.Lib.Pointwise
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

/-- One step of the search on a whole vector. -/
def vstep {s : Shape} (m : FVec Ideal s .f32) (b : IVec s 32) (k : BitVec 32) : IVec s 32 :=
  select (cmpf .ole (bitcastToFloat .f32 (addi b (broadcast s k) : IVec s 32)) m) (addi b (broadcast s k)) b

theorem vstep_at {s : Shape} (m : FVec Ideal s .f32) (b : IVec s 32) (k : BitVec 32) (y : s.Idx) : vstep m b k y = sstep (m y) (b y) k := rfl

/-- The end of the search on a whole vector. -/
def vlast {s : Shape} (m : FVec Ideal s .f32) (b : IVec s 32) : IVec s 32 :=
  select (cmpf .olt m (broadcast s (FloatOps.ofBits (F := Ideal) .f32 0x7F000000#32))) (vstep m b 8388608#32) (broadcast s 2139095040#32)

theorem vsel_at {s : Shape} (m : FVec Ideal s .f32) (t : Ideal .f32) (b : IVec s 32) (c : BitVec 32) (y : s.Idx) :
    select (cmpf .olt m (broadcast s t)) b (broadcast s c) y = Scalar.select (FloatOps.cmpf (F := Ideal) (φ := .f32) .olt (m y) t) (b y) c := rfl

theorem vlast_at {s : Shape} (m : FVec Ideal s .f32) (b : IVec s 32) (y : s.Idx) : vlast m b y
    = Scalar.select (FloatOps.cmpf (F := Ideal) (φ := .f32) .olt (m y) (FloatOps.ofBits (F := Ideal) .f32 2130706432#32)) (sstep (m y) (b y) 8388608#32) 2139095040#32 := by
  rw [vlast, vsel_at, vstep_at]

/-- The kernel's four operations of one step, folded. -/
theorem vstep_fold {s : Shape} (m : FVec Ideal s .f32) (b : IVec s 32) (k : BitVec 32) :
    select (cmpf .ole (bitcastToFloat .f32 (addi b (broadcast s k) : IVec s 32)) m) (addi b (broadcast s k)) b = vstep m b k := rfl

/-- The kernel's operations of the end of the search, folded. -/
theorem vlast_fold {s : Shape} (m : FVec Ideal s .f32) (b : IVec s 32) :
    select (cmpf .olt m (broadcast s (FloatOps.ofBits (F := Ideal) .f32 0x7F000000#32))) (vstep m b 8388608#32) (broadcast s 2139095040#32) = vlast m b := rfl

theorem broadcast_at {s : Shape} (k : BitVec 32) (y : s.Idx) : broadcast s k y = k := rfl

/-- The whole search on a vector gives each element's field. -/
theorem ebits_at {s : Shape} (m : FVec Ideal s .f32) (y : s.Idx) :
    vlast m (vstep m (vstep m (vstep m (vstep m (vstep m (vstep m (vstep m (broadcast s 0#32) 1073741824#32) 536870912#32) 268435456#32)
      134217728#32) 67108864#32) 33554432#32) 16777216#32) y = ebits (m y) := by
  rw [vlast_at, vstep_at, vstep_at, vstep_at, vstep_at, vstep_at, vstep_at, vstep_at, ebits, sfirst, broadcast_at]

theorem pay17_at (m : FVec Ideal S32x128 .f32) (y : S32x128.Idx) : k0_pay17 (F := Ideal) m 0#32 y = ebits (m y) := by
  simp only [k0_pay17, vstep_fold, vlast_fold]
  exact ebits_at m y

theorem pay33_at (w : FVec Ideal S32x128 .f32) (y : S32x128.Idx) : k0_pay33 (F := Ideal) (k0_pay31 w) (k0_pay32 w) y = ebits (k0_pay31 w y) := by
  simp only [k0_pay33, k0_pay32]
  generalize k0_pay31 w = m
  simp only [vstep_fold, vlast_fold]
  exact ebits_at m y

theorem pay46_at (w : Vec Ideal S8x128 .f32) (y : S1x128.Idx) : k0_pay46 (F := Ideal) (k0_pay44 w) (k0_pay45 w) y = ebits (k0_pay44 w y) := by
  simp only [k0_pay46, k0_pay45]
  generalize k0_pay44 w = m
  simp only [vstep_fold, vlast_fold]
  exact ebits_at m y

/-- A value quantised by a field, as the kernel writes it on a vector. -/
theorem quant_at {s : Shape} (b : IVec s 32) (d : FVec Ideal s .f32) (lo hi one : Ideal .f32) (z t k : BitVec 32) (h : FTy.fp8e4m3.bits < FTy.f32.bits) (y : s.Idx) :
    truncf .fp8e4m3 (minimumf (broadcast s hi) (maximumf (broadcast s lo) (mulf d (select (ori (cmpi .eq b (broadcast s z)) (cmpi .eq b (broadcast s t)))
      (broadcast s one) (bitcastToFloat .f32 (subi (broadcast s k) b : IVec s 32)))))) h y
      = min hi (max lo (FloatOps.mulf (d y) (Scalar.select (IntOp.ori (IntOp.cmpi .eq (b y) z) (IntOp.cmpi .eq (b y) t)) one
        (FloatOps.ofBits (F := Ideal) .f32 (IntOp.subi k (b y) : BitVec 32))))) := rfl

theorem pay19_at (v84 : FVec Ideal S32x128 .f32) (m : FVec Ideal S32x128 .f32) (y : S32x128.Idx) :
    k0_pay19 (F := Ideal) v84 (k0_pay17 m 0#32) (k0_pay18 m 0#32) 0#32 y = quant (ebits (m y)) (v84 y) := by
  rw [← pay17_at]
  simp only [k0_pay19, k0_pay18]
  generalize k0_pay17 m 0#32 = b
  rw [quant_at, quant, inverseOf, trivialBits]
  rfl

theorem pay34_at (v193 : FVec Ideal S32x128 .f32) (w : FVec Ideal S32x128 .f32) (y : S32x128.Idx) :
    k0_pay34 (F := Ideal) v193 (k0_pay31 w) (k0_pay32 w) y = quant (ebits (k0_pay31 w y)) (v193 y) := by
  rw [← pay33_at]
  simp only [k0_pay34]
  generalize k0_pay33 (k0_pay31 w) (k0_pay32 w) = b
  rw [quant_at, quant, inverseOf, trivialBits]
  rfl

end Cert.KernelIdeal.Hand

end
-- ==== Proof.PayD.lean ====
/- The fields of the groups of columns, collected in four registers, one lane per group; and the row scales made of them. -/
module

public import proofs.«01_k».proof.Proof.Gen.KernelIdeal.Skeleton
public import Idealize.ShloMosaic.Lib.Pointwise
public import proofs.«01_k».proof.Proof.Spec

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

/-- What one collecting register holds at lane `l` before trip `k`: the field of a group of columns passed. -/
def carried (B : Blk) (q k l : ℕ) : BitVec 32 := if l < 2 * k then B.rowBits q l else 0#32

/-- The lane a trip writes, first group of columns. -/
theorem lane0 : ∀ (l : Fin 128) (k : Fin 32), IntOp.cmpi .eq (BitVec.ofNat 32 l.val) (Scalar.addi (Scalar.muli 2#32 (Scf.iv 0#32 1#32 k)) 0#32)
    = if l.val = 2 * k.val then 1#1 else 0#1 := by decide +kernel

/-- The lane a trip writes, second group. -/
theorem lane1 : ∀ (l : Fin 128) (k : Fin 32), IntOp.cmpi .eq (BitVec.ofNat 32 l.val) (Scalar.addi (Scalar.muli 2#32 (Scf.iv 0#32 1#32 k)) 1#32)
    = if l.val = 2 * k.val + 1 then 1#1 else 0#1 := by decide +kernel

theorem select_ite {α : Type} (P : Prop) [Decidable P] (a b : α) : Scalar.select (if P then 1#1 else 0#1) a b = if P then a else b := by
  split <;> simp [Scalar.select]

/-- Two groups' fields written into their lanes extend what a register holds by one trip. -/
theorem carried_step (B : Blk) (q : ℕ) (l : Fin 128) (k : Fin 32) (b b' c : BitVec 32) (hb : b = B.rowBits q (2 * k.val)) (hb' : b' = B.rowBits q (2 * k.val + 1))
    (hc : c = carried B q k.val l.val) :
    Scalar.select (IntOp.cmpi .eq (BitVec.ofNat 32 l.val) (Scalar.addi (Scalar.muli 2#32 (Scf.iv 0#32 1#32 k)) 1#32)) b'
      (Scalar.select (IntOp.cmpi .eq (BitVec.ofNat 32 l.val) (Scalar.addi (Scalar.muli 2#32 (Scf.iv 0#32 1#32 k)) 0#32)) b c)
      = carried B q (k.val + 1) l.val := by
  rw [lane0, lane1, select_ite, select_ite, hb, hb', hc]
  unfold carried
  by_cases h1 : l.val = 2 * k.val + 1
  · rw [if_pos h1, if_pos (by omega), h1]
  · rw [if_neg h1]
    by_cases h0 : l.val = 2 * k.val
    · rw [if_pos h0, if_pos (by omega), h0]
    · rw [if_neg h0]
      by_cases h : l.val < 2 * k.val
      · rw [if_pos h, if_pos (by omega)]
      · rw [if_neg h, if_neg (by omega)]

variable (B : Blk) (a : ℕ) (k : Fin 32) (v45 c : IVec S8x128 32) (b : IVec S32x128 32) (m : FVec Ideal S32x128 .f32) (d : IVec S32x128 32)
variable (h45 : ∀ s l, v45 (ix2 s l) = BitVec.ofNat 32 l.val) (hb : ∀ p l, b (ix2 p l) = B.rowBits (a + p.val) (2 * k.val))
  (hb' : ∀ p l, k0_pay33 m d (ix2 p l) = B.rowBits (a + p.val) (2 * k.val + 1))

include h45 hb hb'

/-- The first register, of the rows from 0. -/
theorem pay36_at (hc : ∀ (s : Fin 8) (l : Fin 128), c (ix2 s l) = carried B (a + s.val) k.val l.val) (s : Fin 8) (l : Fin 128) :
    k0_pay36 (F := Ideal) v45 (Scf.iv 0#32 1#32 k) (k0_pay21 v45 c (Scf.iv 0#32 1#32 k) b) m d (ix2 s l) = carried B (a + s.val) (k.val + 1) l.val := by
  rw [k0_pay36]
  generalize k0_pay33 m d = d' at hb'
  have e : ∀ x, extractStridedSlice S8x128 ![0, 0] x slices_S32x128_o0_0_S8x128 (ix2 s l) = (x : IVec S32x128 32) (ix2 (⟨s.val, by omega⟩ : Fin 32) l) := by
    intro x; pointwise
  refine Eq.trans ?_ (carried_step B _ l k _ _ _ (hb (⟨s.val, by omega⟩ : Fin 32) l) (hb' (⟨s.val, by omega⟩ : Fin 32) l) (hc s l) |>.trans ?_)
  · show Scalar.select (IntOp.cmpi .eq (v45 (ix2 s l)) _) (extractStridedSlice S8x128 ![0, 0] d' slices_S32x128_o0_0_S8x128 (ix2 s l))
      (Scalar.select (IntOp.cmpi .eq (v45 (ix2 s l)) _) (extractStridedSlice S8x128 ![0, 0] b slices_S32x128_o0_0_S8x128 (ix2 s l)) (c (ix2 s l))) = _
    rw [e, e, h45]
    rfl
  · rfl

/-- The second register, of the rows from 8. -/
theorem pay37_at (hc : ∀ (s : Fin 8) (l : Fin 128), c (ix2 s l) = carried B (a + (8 + s.val)) k.val l.val) (s : Fin 8) (l : Fin 128) :
    k0_pay37 (F := Ideal) v45 (Scf.iv 0#32 1#32 k) (k0_pay22 v45 c (Scf.iv 0#32 1#32 k) b) m d (ix2 s l) = carried B (a + (8 + s.val)) (k.val + 1) l.val := by
  rw [k0_pay37]
  generalize k0_pay33 m d = d' at hb'
  have e : ∀ x, extractStridedSlice S8x128 ![8, 0] x slices_S32x128_o8_0_S8x128 (ix2 s l) = (x : IVec S32x128 32) (ix2 (⟨8 + s.val, by omega⟩ : Fin 32) l) := by
    intro x; pointwise
  refine Eq.trans ?_ (carried_step B _ l k _ _ _ (hb (⟨8 + s.val, by omega⟩ : Fin 32) l) (hb' (⟨8 + s.val, by omega⟩ : Fin 32) l) (hc s l) |>.trans ?_)
  · show Scalar.select (IntOp.cmpi .eq (v45 (ix2 s l)) _) (extractStridedSlice S8x128 ![8, 0] d' slices_S32x128_o8_0_S8x128 (ix2 s l))
      (Scalar.select (IntOp.cmpi .eq (v45 (ix2 s l)) _) (extractStridedSlice S8x128 ![8, 0] b slices_S32x128_o8_0_S8x128 (ix2 s l)) (c (ix2 s l))) = _
    rw [e, e, h45]
    rfl
  · rfl

/-- The third register, of the rows from 16. -/
theorem pay38_at (hc : ∀ (s : Fin 8) (l : Fin 128), c (ix2 s l) = carried B (a + (16 + s.val)) k.val l.val) (s : Fin 8) (l : Fin 128) :
    k0_pay38 (F := Ideal) v45 (Scf.iv 0#32 1#32 k) (k0_pay23 v45 c (Scf.iv 0#32 1#32 k) b) m d (ix2 s l) = carried B (a + (16 + s.val)) (k.val + 1) l.val := by
  rw [k0_pay38]
  generalize k0_pay33 m d = d' at hb'
  have e : ∀ x, extractStridedSlice S8x128 ![16, 0] x slices_S32x128_o16_0_S8x128 (ix2 s l) = (x : IVec S32x128 32) (ix2 (⟨16 + s.val, by omega⟩ : Fin 32) l) := by
    intro x; pointwise
  refine Eq.trans ?_ (carried_step B _ l k _ _ _ (hb (⟨16 + s.val, by omega⟩ : Fin 32) l) (hb' (⟨16 + s.val, by omega⟩ : Fin 32) l) (hc s l) |>.trans ?_)
  · show Scalar.select (IntOp.cmpi .eq (v45 (ix2 s l)) _) (extractStridedSlice S8x128 ![16, 0] d' slices_S32x128_o16_0_S8x128 (ix2 s l))
      (Scalar.select (IntOp.cmpi .eq (v45 (ix2 s l)) _) (extractStridedSlice S8x128 ![16, 0] b slices_S32x128_o16_0_S8x128 (ix2 s l)) (c (ix2 s l))) = _
    rw [e, e, h45]
    rfl
  · rfl

/-- The last register, of the rows from 24. -/
theorem pay39_at (hc : ∀ (s : Fin 8) (l : Fin 128), c (ix2 s l) = carried B (a + (24 + s.val)) k.val l.val) (s : Fin 8) (l : Fin 128) :
    k0_pay39 (F := Ideal) v45 (Scf.iv 0#32 1#32 k) (k0_pay24 v45 c (Scf.iv 0#32 1#32 k) b) m d (ix2 s l) = carried B (a + (24 + s.val)) (k.val + 1) l.val := by
  rw [k0_pay39]
  generalize k0_pay33 m d = d' at hb'
  have e : ∀ x, extractStridedSlice S8x128 ![24, 0] x slices_S32x128_o24_0_S8x128 (ix2 s l) = (x : IVec S32x128 32) (ix2 (⟨24 + s.val, by omega⟩ : Fin 32) l) := by
    intro x; pointwise
  refine Eq.trans ?_ (carried_step B _ l k _ _ _ (hb (⟨24 + s.val, by omega⟩ : Fin 32) l) (hb' (⟨24 + s.val, by omega⟩ : Fin 32) l) (hc s l) |>.trans ?_)
  · show Scalar.select (IntOp.cmpi .eq (v45 (ix2 s l)) _) (extractStridedSlice S8x128 ![24, 0] d' slices_S32x128_o24_0_S8x128 (ix2 s l))
      (Scalar.select (IntOp.cmpi .eq (v45 (ix2 s l)) _) (extractStridedSlice S8x128 ![24, 0] b slices_S32x128_o24_0_S8x128 (ix2 s l)) (c (ix2 s l))) = _
    rw [e, e, h45]
    rfl
  · rfl

omit h45 hb hb'

theorem pay63_at (s : Fin 8) (l : Fin 128) : k0_pay63 (ix2 s l) = 0#32 := by
  pointwise [k0_pay63]

/-- The collected fields as the rows' scales. -/
theorem pay64_at (c0 c1 c2 c3 : IVec S8x128 32) (h0 : ∀ (s : Fin 8) (l : Fin 128), c0 (ix2 s l) = carried B (a + s.val) 32 l.val)
    (h1 : ∀ (s : Fin 8) (l : Fin 128), c1 (ix2 s l) = carried B (a + (8 + s.val)) 32 l.val) (h2 : ∀ (s : Fin 8) (l : Fin 128), c2 (ix2 s l) = carried B (a + (16 + s.val)) 32 l.val)
    (h3 : ∀ (s : Fin 8) (l : Fin 128), c3 (ix2 s l) = carried B (a + (24 + s.val)) 32 l.val) (p : Fin 32) (l : Fin 64) :
    k0_pay64 (F := Ideal) c0 c1 c2 c3 (ix2 p l) = scaleOf (B.rowBits (a + p.val) l.val) := by
  have hl : ∀ q, carried B q 32 l.val = B.rowBits q l.val := fun q => if_pos (by omega)
  have e : concatenate S32x128 0 [⟨S8x128, c0⟩, ⟨S8x128, c1⟩, ⟨S8x128, c2⟩, ⟨S8x128, c3⟩] concatenates_S8x128_S8x128_S8x128_S8x128_S32x128_d0 (ix2 p (⟨l.val, by omega⟩ : Fin 128))
      = B.rowBits (a + p.val) l.val := by
    pointwise
    simp only [h0, h1, h2, h3, hl]
    split
    · rfl
    split
    · exact congrArg (B.rowBits · _) (by omega)
    split
    · exact congrArg (B.rowBits · _) (by omega)
    · exact congrArg (B.rowBits · _) (by omega)
  rw [scaleOf, trivialBits, ← e, k0_pay64]
  generalize concatenate S32x128 0 [⟨S8x128, c0⟩, ⟨S8x128, c1⟩, ⟨S8x128, c2⟩, ⟨S8x128, c3⟩] concatenates_S8x128_S8x128_S8x128_S8x128_S32x128_d0 = w
  have e' : ∀ x, extractStridedSlice S32x64 ![0, 0] x slices_S32x128_o0_0_S32x64 (ix2 p l) = (x : FVec Ideal S32x128 .f32) (ix2 p (⟨l.val, by omega⟩ : Fin 128)) := by
    intro x; pointwise
  exact e' _

end Cert.KernelIdeal.Hand

end
-- ==== Proof.T3.lean ====
/- The second pass over a group of 32 rows: the gradient, its quantisation by rows, and the columns' maxima. -/
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.Reads
public import proofs.«01_k».proof.Proof.Spec
public import proofs.«01_k».proof.Proof.PayA
public import proofs.«01_k».proof.Proof.PayB
public import proofs.«01_k».proof.Proof.PayC
public import proofs.«01_k».proof.Proof.PayD
public import proofs.«01_k».proof.Proof.Offs

@[expose] public section

set_option maxRecDepth 16384

noncomputable section

namespace Cert.KernelIdeal.Hand

open Cert.KernelIdeal Cert.KernelIdeal.Gen Cert.Spec Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
variable (arg1 : Memref sig .tc .vmem S128x8192 .bf16) (harg1 : arg1.IsWhole) (arg2 : Memref sig .tc .vmem S1x1x128 .f32) (harg2 : arg2.IsWhole) (arg3 : Memref sig .tc .vmem S1x8192 .f32) (harg3 : arg3.IsWhole)
  (arg4 : Memref sig .tc .vmem S128x8192 .bf16) (harg4 : arg4.IsWhole) (arg5 : Memref sig .tc .vmem S128x8192 .bf16) (harg5 : arg5.IsWhole) (arg6 : Memref sig .tc .vmem S128x8192 .bf16) (harg6 : arg6.IsWhole)
  (arg7 : Memref sig .tc .vmem S128x8192 .bf16) (harg7 : arg7.IsWhole) (arg8 : Memref sig .tc .vmem S128x8192 .bf16) (harg8 : arg8.IsWhole) (arg9 : Memref sig .tc .vmem S1x8192 .f32) (harg9 : arg9.IsWhole)
  (arg10 : Memref sig .tc .vmem S1x8x8192 .f32) (harg10 : arg10.IsWhole) (arg11 : Memref sig .tc .vmem S128x8192 .fp8e4m3) (harg11 : arg11.IsWhole) (arg12 : Memref sig .tc .vmem S128x64 .f32) (harg12 : arg12.IsWhole)
  (arg13 : Memref sig .tc .vmem S128x8192 .fp8e4m3) (harg13 : arg13.IsWhole) (arg14 : Memref sig .tc .vmem S1x8x8192 .f32) (harg14 : arg14.IsWhole) (arg15 : Memref sig .tc .vmem S32x8192 .f32) (harg15 : arg15.IsWhole)
  (arg16 : Memref sig .tc .vmem S128x8192 .f32) (harg16 : arg16.IsWhole) (arg17 : Memref sig .tc .vmem S128x128 .f32) (harg17 : arg17.IsWhole)
  (arg18 : Memref sig .tc .vmem S8x8192 .f32) (harg18 : arg18.IsWhole) (arg19 : Memref sig .tc .vmem S8x8192 .f32) (harg19 : arg19.IsWhole)
variable (B : Blk) (X1 : BufTy.Contents (Elt Ideal) arg1.view.ty) (X4 : BufTy.Contents (Elt Ideal) arg4.view.ty) (X15 : BufTy.Contents (Elt Ideal) arg15.view.ty)

/-- The elements of the block passed before trip `k` of row group `k1`. -/
def Passed (k1 k p j : ℕ) : Prop := p < 32 * k1 ∨ (p < 32 * k1 + 32 ∧ j < 256 * k)

/-- What holds before each trip of the second pass: the inputs; at the elements passed the gradient, in both buffers, and
    its quantisation; the columns' running maxima; the fields of the column groups passed. -/
def inv3 (k1 k : ℕ) (acc : IVec S8x128 32 × IVec S8x128 32 × IVec S8x128 32 × IVec S8x128 32) : sProp 𝕄 :=
  iprop((arg1.view.loc (c : Thread nD τ) ↦[arg1.view.set]{fullShare} X1) ∗ (arg4.view.loc (c : Thread nD τ) ↦[arg4.view.set]{fullShare} X4) ∗ (arg15.view.loc (c : Thread nD τ) ↦[arg15.view.set]{fullShare} X15)
    ∗ (∃ f, (arg8.view.loc (c : Thread nD τ) ↦[arg8.view.set]{fullShare} f) ∗ ⌜∀ (p : Fin 128) (j : Fin 8192), Passed k1 k p.val j.val → arg8.view.read (Elt Ideal) f (ix2 p j) = B.dx p.val j.val⌝)
    ∗ (∃ f, (arg11.view.loc (c : Thread nD τ) ↦[arg11.view.set]{fullShare} f) ∗ ⌜∀ (p : Fin 128) (j : Fin 8192), Passed k1 k p.val j.val → arg11.view.read (Elt Ideal) f (ix2 p j) = quant (B.rowBits p.val (j.val / 128)) (B.dx p.val j.val)⌝)
    ∗ (∃ f, (arg16.view.loc (c : Thread nD τ) ↦[arg16.view.set]{fullShare} f) ∗ ⌜∀ (p : Fin 128) (j : Fin 8192), Passed k1 k p.val j.val → arg16.view.read (Elt Ideal) f (ix2 p j) = B.dx p.val j.val⌝)
    ∗ (∃ f, (arg19.view.loc (c : Thread nD τ) ↦[arg19.view.set]{fullShare} f) ∗ ⌜∀ (s : Fin 8) (j : Fin 8192), arg19.view.read (Elt Ideal) f (ix2 s j) = if j.val < 256 * k then B.cmUpTo (4 * k1 + 4) s.val j.val else B.cmUpTo (4 * k1) s.val j.val⌝)
    ∗ ⌜(∀ (s : Fin 8) (l : Fin 128), acc.1 (ix2 s l) = carried B (32 * k1 + s.val) k l.val) ∧ (∀ (s : Fin 8) (l : Fin 128), acc.2.1 (ix2 s l) = carried B (32 * k1 + (8 + s.val)) k l.val)
      ∧ (∀ (s : Fin 8) (l : Fin 128), acc.2.2.1 (ix2 s l) = carried B (32 * k1 + (16 + s.val)) k l.val) ∧ (∀ (s : Fin 8) (l : Fin 128), acc.2.2.2 (ix2 s l) = carried B (32 * k1 + (24 + s.val)) k l.val)⌝)

set_option warn.classDefReducibility false in
set_option maxHeartbeats 2000000 in
/-- The second pass over the columns, as an invariant. -/
def loop3 (hX1 : ∀ p j, arg1.view.read (Elt Ideal) X1 (ix2 p j) = B.x p.val j.val) (hX4 : ∀ p j, arg4.view.read (Elt Ideal) X4 (ix2 p j) = B.dr p.val j.val)
    (k1 : Fin k0_t1_loop.trips) (hX15 : ∀ (p : Fin 32) (j : Fin 8192), arg15.view.read (Elt Ideal) X15 (ix2 p j) = B.g (32 * k1.val + p.val) j.val)
    (v32 : BitVec 32) (v34 : Vec Ideal S32x128 .f32) (h34 : ∀ p l, v34 (ix2 p l) = B.r (32 * k1.val + p.val)) (v37 : FVec Ideal S32x128 .f32)
    (h37 : ∀ (p : Fin 32) (l : Fin 128), v37 (ix2 p l) = ∑ u ∈ Finset.range 64, B.gx (32 * k1.val + p.val) (128 * u + l.val))
    (v45 : IVec S8x128 32) (h45 : ∀ s l, v45 (ix2 s l) = BitVec.ofNat 32 l.val) (init : IVec S8x128 32 × IVec S8x128 32 × IVec S8x128 32 × IVec S8x128 32) :
    Idealize.ShloMosaic.LoopInv (M := 𝕄) Idealize.ShloMosaic.frame (wpE (defs₀ (F := Ideal)) Variants.none (c : Thread nD τ) none) Set.univ
      k0_t3_loop.lb k0_t3_loop.ub k0_t3_loop.st k0_t3_ok init (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1 v32 v34 v37 v45) where
  inv := inv3 c arg1 arg4 arg8 arg11 arg15 arg16 arg19 B X1 X4 X15 k1.val
  step := fun k acc => by
    obtain ⟨c0, c1, c2, c3⟩ := acc
    unfold k0_t3_body inv3
    have hk1 : k1.val < 4 := lt_of_lt_of_le k1.isLt k0_t1_abs.2.1
    have hk : k.val < 32 := lt_of_lt_of_le k.isLt k0_t3_abs.2.1
    iintro ⟨H1, H4, H15, ⟨%f8, H8, %h8⟩, ⟨%f11, H11, %h11⟩, ⟨%f16, H16, %h16⟩, ⟨%f19, H19, %h19⟩, %hacc⟩
    sl_exec
    sl_step
    have e44 := pay62_at B (32 * k1.val) v34 h34 v37 h37
    have e67 : ∀ (p : Fin 32) (l : Fin 256), arg1.view.readAt (Elt Ideal) (Rect.unit (s := S128x8192) (k0_off6 k1 k) S32x256.size (k0_off6_inb k1 k)).toLoadRect X1 (ix2 p l) = B.x (32 * k1.val + p.val) (256 * k.val + l.val) :=
      fun p l => (load2 _ _ _ (k0_off6_eq k1 k) p l (by omega) (by omega)).trans (hX1 _ _)
    have e72 : ∀ (p : Fin 32) (l : Fin 256), arg4.view.readAt (Elt Ideal) (Rect.unit (s := S128x8192) (k0_off6 k1 k) S32x256.size (k0_off6_inb k1 k)).toLoadRect X4 (ix2 p l) = B.dr (32 * k1.val + p.val) (256 * k.val + l.val) :=
      fun p l => (load2 _ _ _ (k0_off6_eq k1 k) p l (by omega) (by omega)).trans (hX4 _ _)
    have e79 : ∀ (p : Fin 32) (l : Fin 128), arg15.view.readAt (Elt Ideal) (Rect.unit (s := S32x8192) (k0_off7 k 0#32) S32x128.size (k0_off7_inb k 0)).toLoadRect X15 (ix2 p l) = B.g (32 * k1.val + p.val) (256 * k.val + l.val) :=
      fun p l => (load2 (R := 32) (C := 8192) _ _ _ (off7_0 k) p l (by omega) (by omega)).trans ((hX15 _ _).trans (congrArg₂ B.g (by first | omega | (dsimp only; omega)) (by first | omega | (dsimp only; omega))))
    have e188 : ∀ (p : Fin 32) (l : Fin 128), arg15.view.readAt (Elt Ideal) (Rect.unit (s := S32x8192) (k0_off7 k 128#32) S32x128.size (k0_off7_inb k 1)).toLoadRect X15 (ix2 p l) = B.g (32 * k1.val + p.val) (256 * k.val + (128 + l.val)) :=
      fun p l => (load2 (R := 32) (C := 8192) _ _ _ (off7_1 k) p l (by omega) (by omega)).trans ((hX15 _ _).trans (congrArg₂ B.g (by first | omega | (dsimp only; omega)) (by first | omega | (dsimp only; omega))))
    have e12 := pay12_at B (32 * k1.val) (256 * k.val) _ _ _ _ e44 e67 e72 e79
    have e25 := pay25_at B (32 * k1.val) (256 * k.val) _ _ _ _ e44 e67 e72 e188
    have e16 : ∀ (p : Fin 32) (l : Fin 128), ebits (k0_pay16 (F := Ideal) (k0_pay62 v34 v37) (arg1.view.readAt (Elt Ideal) (Rect.unit (s := S128x8192) (k0_off6 k1 k) S32x256.size (k0_off6_inb k1 k)).toLoadRect X1) (arg4.view.readAt (Elt Ideal) (Rect.unit (s := S128x8192) (k0_off6 k1 k) S32x256.size (k0_off6_inb k1 k)).toLoadRect X4) (arg15.view.readAt (Elt Ideal) (Rect.unit (s := S32x8192) (k0_off7 k 0#32) S32x128.size (k0_off7_inb k 0)).toLoadRect X15) (ix2 p l)) = B.rowBits (32 * k1.val + p.val) (2 * k.val) := fun p l => by
      rw [pay16_at B (32 * k1.val) (256 * k.val) _ _ _ _ e12 p l, Blk.rowBits, show 256 * k.val = 128 * (2 * k.val) by omega]
    have e31 : ∀ (p : Fin 32) (l : Fin 128), ebits (k0_pay31 (F := Ideal) (k0_pay27 (k0_pay62 v34 v37) (k0_pay10 (arg1.view.readAt (Elt Ideal) (Rect.unit (s := S128x8192) (k0_off6 k1 k) S32x256.size (k0_off6_inb k1 k)).toLoadRect X1)) (k0_pay11 (arg4.view.readAt (Elt Ideal) (Rect.unit (s := S128x8192) (k0_off6 k1 k) S32x256.size (k0_off6_inb k1 k)).toLoadRect X4)) (arg15.view.readAt (Elt Ideal) (Rect.unit (s := S32x8192) (k0_off7 k 128#32) S32x128.size (k0_off7_inb k 1)).toLoadRect X15)) (ix2 p l)) = B.rowBits (32 * k1.val + p.val) (2 * k.val + 1) := fun p l => by
      rw [pay31_at B (32 * k1.val) (256 * k.val) _ _ _ _ e25 p l, Blk.rowBits]
      simp only [show ∀ x : ℕ, 256 * k.val + (128 + x) = 128 * (2 * k.val + 1) + x from fun x => by omega]
    have eb : ∀ (p : Fin 32) (l : Fin 128), k0_pay17 (F := Ideal) (k0_pay16 (k0_pay62 v34 v37) (arg1.view.readAt (Elt Ideal) (Rect.unit (s := S128x8192) (k0_off6 k1 k) S32x256.size (k0_off6_inb k1 k)).toLoadRect X1) (arg4.view.readAt (Elt Ideal) (Rect.unit (s := S128x8192) (k0_off6 k1 k) S32x256.size (k0_off6_inb k1 k)).toLoadRect X4) (arg15.view.readAt (Elt Ideal) (Rect.unit (s := S32x8192) (k0_off7 k 0#32) S32x128.size (k0_off7_inb k 0)).toLoadRect X15)) 0#32 (ix2 p l) = B.rowBits (32 * k1.val + p.val) (2 * k.val) :=
      fun p l => (pay17_at _ _).trans (e16 p l)
    have eb' : ∀ (p : Fin 32) (l : Fin 128), k0_pay33 (F := Ideal) (k0_pay31 (k0_pay27 (k0_pay62 v34 v37) (k0_pay10 (arg1.view.readAt (Elt Ideal) (Rect.unit (s := S128x8192) (k0_off6 k1 k) S32x256.size (k0_off6_inb k1 k)).toLoadRect X1)) (k0_pay11 (arg4.view.readAt (Elt Ideal) (Rect.unit (s := S128x8192) (k0_off6 k1 k) S32x256.size (k0_off6_inb k1 k)).toLoadRect X4)) (arg15.view.readAt (Elt Ideal) (Rect.unit (s := S32x8192) (k0_off7 k 128#32) S32x128.size (k0_off7_inb k 1)).toLoadRect X15))) (k0_pay32 (k0_pay27 (k0_pay62 v34 v37) (k0_pay10 (arg1.view.readAt (Elt Ideal) (Rect.unit (s := S128x8192) (k0_off6 k1 k) S32x256.size (k0_off6_inb k1 k)).toLoadRect X1)) (k0_pay11 (arg4.view.readAt (Elt Ideal) (Rect.unit (s := S128x8192) (k0_off6 k1 k) S32x256.size (k0_off6_inb k1 k)).toLoadRect X4)) (arg15.view.readAt (Elt Ideal) (Rect.unit (s := S32x8192) (k0_off7 k 128#32) S32x128.size (k0_off7_inb k 1)).toLoadRect X15))) (ix2 p l) = B.rowBits (32 * k1.val + p.val) (2 * k.val + 1) :=
      fun p l => (pay33_at _ _).trans (e31 p l)
    isplitl [H1]; · iexact H1
    isplitl [H4]; · iexact H4
    isplitl [H15]; · iexact H15
    isplitl [H8]
    · iexists _; isplitl; · iexact H8
      ipureintro
      intro p j hj
      by_cases hin : (32 * k1.val ≤ p.val ∧ p.val < 32 * k1.val + 32) ∧ (256 * k.val ≤ j.val ∧ j.val < 256 * k.val + 256)
      · refine (store2_in (H := 32) (W := 256) _ _ _ _ _ (k0_off6_eq k1 k) p j hin.1 hin.2).trans ?_
        have hp : p.val - 32 * k1.val < 32 := by omega
        refine (pay40_at _ _ (fun l => B.dx (32 * k1.val + (⟨p.val - 32 * k1.val, hp⟩ : Fin 32).val) (256 * k.val + l)) ⟨p.val - 32 * k1.val, hp⟩ (e12 ⟨p.val - 32 * k1.val, hp⟩) (e25 ⟨p.val - 32 * k1.val, hp⟩) _).trans ?_
        exact congrArg₂ B.dx (by first | omega | (dsimp only; omega)) (by first | omega | (dsimp only; omega))
      refine (store2_out (H := 32) (W := 256) _ _ _ _ _ (k0_off6_eq k1 k) p j hin).trans ?_
      rw [View.writes_nil]
      exact h8 p j (by unfold Passed at hj ⊢; omega)
    isplitl [H11]
    · iexists _; isplitl; · iexact H11
      ipureintro
      intro p j hj
      by_cases hb : (32 * k1.val ≤ p.val ∧ p.val < 32 * k1.val + 32) ∧ (256 * k.val + 128 ≤ j.val ∧ j.val < 256 * k.val + 128 + 128)
      · refine (store2_in (H := 32) (W := 128) _ _ _ _ _ (off8_1 k1 k) p j hb.1 hb.2).trans ?_
        refine (pay34_at _ _ _).trans ((congrArg₂ quant (e31 _ _) (e25 _ _)).trans ?_)
        exact congrArg₂ quant (congrArg₂ B.rowBits (by first | omega | (dsimp only; omega)) (by first | omega | (dsimp only; omega)))
          (congrArg₂ B.dx (by first | omega | (dsimp only; omega)) (by first | omega | (dsimp only; omega)))
      refine (store2_out (H := 32) (W := 128) _ _ _ _ _ (off8_1 k1 k) p j hb).trans ?_
      by_cases hc : (32 * k1.val ≤ p.val ∧ p.val < 32 * k1.val + 32) ∧ (256 * k.val + 0 ≤ j.val ∧ j.val < 256 * k.val + 0 + 128)
      · refine (store2_in (H := 32) (W := 128) _ _ _ _ _ (off8_0 k1 k) p j hc.1 hc.2).trans ?_
        refine (pay19_at _ _ _).trans ((congrArg₂ quant (e16 _ _) (e12 _ _)).trans ?_)
        exact congrArg₂ quant (congrArg₂ B.rowBits (by first | omega | (dsimp only; omega)) (by first | omega | (dsimp only; omega)))
          (congrArg₂ B.dx (by first | omega | (dsimp only; omega)) (by first | omega | (dsimp only; omega)))
      refine (store2_out (H := 32) (W := 128) _ _ _ _ _ (off8_0 k1 k) p j hc).trans ?_
      rw [View.writes_nil]
      exact h11 p j (by unfold Passed at hj ⊢; omega)
    isplitl [H16]
    · iexists _; isplitl; · iexact H16
      ipureintro
      intro p j hj
      by_cases hb : (32 * k1.val ≤ p.val ∧ p.val < 32 * k1.val + 32) ∧ (256 * k.val + 128 ≤ j.val ∧ j.val < 256 * k.val + 128 + 128)
      · refine (store2_in (H := 32) (W := 128) _ _ _ _ _ (off8_1 k1 k) p j hb.1 hb.2).trans ?_
        refine (pay26_at _ _ _ _ _ _).trans ((e25 _ _).trans ?_)
        exact congrArg₂ B.dx (by first | omega | (dsimp only; omega)) (by first | omega | (dsimp only; omega))
      refine (store2_out (H := 32) (W := 128) _ _ _ _ _ (off8_1 k1 k) p j hb).trans ?_
      by_cases hc : (32 * k1.val ≤ p.val ∧ p.val < 32 * k1.val + 32) ∧ (256 * k.val + 0 ≤ j.val ∧ j.val < 256 * k.val + 0 + 128)
      · refine (store2_in (H := 32) (W := 128) _ _ _ _ _ (off8_0 k1 k) p j hc.1 hc.2).trans ?_
        refine (pay13_at _ _ _ _ _ _).trans ((e12 _ _).trans ?_)
        exact congrArg₂ B.dx (by first | omega | (dsimp only; omega)) (by first | omega | (dsimp only; omega))
      refine (store2_out (H := 32) (W := 128) _ _ _ _ _ (off8_0 k1 k) p j hc).trans ?_
      rw [View.writes_nil]
      exact h16 p j (by unfold Passed at hj ⊢; omega)
    isplitl [H19]
    · iexists _; isplitl; · iexact H19
      ipureintro
      intro s j
      by_cases hd : 256 * k.val + 256 ≤ j.val
      · rw [if_neg (by omega)]
        refine (store2_out (H := 8) (W := 128) _ _ _ _ _ (off9_1 k) s j (by omega)).trans ?_
        refine (store2_out (H := 8) (W := 128) _ _ _ _ _ (off9_0 k) s j (by omega)).trans ?_
        rw [View.writes_nil, h19, if_neg (by omega)]
      rw [if_pos (by omega)]
      by_cases hb : 256 * k.val + 128 ≤ j.val
      · refine (store2_in (H := 8) (W := 128) _ _ _ _ _ (off9_1 k) s j (by omega) (by omega)).trans ?_
        refine (pay30_at B (32 * k1.val) (256 * k.val) _ _ _ _ e25 _ _ _).trans ?_
        refine (congrArg (max · _) ((load2 _ _ _ (off9_1 k) _ _ (by omega) (by first | omega | (dsimp only; omega))).trans (h19 _ _))).trans ?_
        rw [if_neg (by first | omega | (dsimp only; omega)), cmUpTo_add]
        exact congrArg₂ max (congrArg₂ (B.cmUpTo _) (by first | omega | (dsimp only; omega)) (by first | omega | (dsimp only; omega))) (congrArg₂ (B.ab4 _) (by first | omega | (dsimp only; omega)) (by first | omega | (dsimp only; omega)))
      refine (store2_out (H := 8) (W := 128) _ _ _ _ _ (off9_1 k) s j (by omega)).trans ?_
      by_cases hc : 256 * k.val ≤ j.val
      · refine (store2_in (H := 8) (W := 128) _ _ _ _ _ (off9_0 k) s j (by omega) (by omega)).trans ?_
        refine (pay15_at B (32 * k1.val) (256 * k.val) _ _ _ _ e12 _ _ _).trans ?_
        refine (congrArg (max · _) ((load2 _ _ _ (off9_0 k) _ _ (by omega) (by first | omega | (dsimp only; omega))).trans (h19 _ _))).trans ?_
        rw [if_neg (by first | omega | (dsimp only; omega)), cmUpTo_add]
        exact congrArg₂ max (congrArg₂ (B.cmUpTo _) (by first | omega | (dsimp only; omega)) (by first | omega | (dsimp only; omega))) (congrArg₂ (B.ab4 _) (by first | omega | (dsimp only; omega)) (by first | omega | (dsimp only; omega)))
      refine (store2_out (H := 8) (W := 128) _ _ _ _ _ (off9_0 k) s j (by omega)).trans ?_
      rw [View.writes_nil, h19, if_pos (by omega)]
    ipureintro
    exact ⟨fun s l => pay36_at B (32 * k1.val) ⟨k.val, hk⟩ _ _ _ _ _ h45 eb eb' hacc.1 s l, fun s l => pay37_at B (32 * k1.val) ⟨k.val, hk⟩ _ _ _ _ _ h45 eb eb' hacc.2.1 s l,
      fun s l => pay38_at B (32 * k1.val) ⟨k.val, hk⟩ _ _ _ _ _ h45 eb eb' hacc.2.2.1 s l, fun s l => pay39_at B (32 * k1.val) ⟨k.val, hk⟩ _ _ _ _ _ h45 eb eb' hacc.2.2.2 s l⟩

/-- Going through the loop: its invariant at the start, then the rest from its invariant at the end. -/
theorem enter3 (hX1 : ∀ p j, arg1.view.read (Elt Ideal) X1 (ix2 p j) = B.x p.val j.val) (hX4 : ∀ p j, arg4.view.read (Elt Ideal) X4 (ix2 p j) = B.dr p.val j.val)
    (k1 : Fin k0_t1_loop.trips) (hX15 : ∀ (p : Fin 32) (j : Fin 8192), arg15.view.read (Elt Ideal) X15 (ix2 p j) = B.g (32 * k1.val + p.val) j.val)
    (v32 : BitVec 32) (v34 : Vec Ideal S32x128 .f32) (h34 : ∀ p l, v34 (ix2 p l) = B.r (32 * k1.val + p.val)) (v37 : FVec Ideal S32x128 .f32)
    (h37 : ∀ (p : Fin 32) (l : Fin 128), v37 (ix2 p l) = ∑ u ∈ Finset.range 64, B.gx (32 * k1.val + p.val) (128 * u + l.val))
    (v45 : IVec S8x128 32) (h45 : ∀ s l, v45 (ix2 s l) = BitVec.ofNat 32 l.val) (init : IVec S8x128 32 × IVec S8x128 32 × IVec S8x128 32 × IVec S8x128 32) {β : Type} {kk : IVec S8x128 32 × IVec S8x128 32 × IVec S8x128 32 × IVec S8x128 32 → Prog (TpuEff nD τ sig (Elt Ideal) Λ₀ .tc) β} {Q : β → sProp 𝕄} :
    inv3 c arg1 arg4 arg8 arg11 arg15 arg16 arg19 B X1 X4 X15 k1.val 0 init ⊢ iprop((∀ acc, inv3 c arg1 arg4 arg8 arg11 arg15 arg16 arg19 B X1 X4 X15 k1.val 32 acc -∗ wp Idealize.ShloMosaic.frame (wpE (defs₀ (F := Ideal)) Variants.none (c : Thread nD τ) none) Set.univ (kk acc) Q)
      -∗ wp Idealize.ShloMosaic.frame (wpE (defs₀ (F := Ideal)) Variants.none (c : Thread nD τ) none) Set.univ (Scf.Loop.for k0_t3_loop k0_t3_ok init (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k1 v32 v34 v37 v45) >>= kk) Q) := by
  have t : Scf.trips k0_t3_loop.lb k0_t3_loop.ub k0_t3_loop.st = 32 := by decide
  have h := exec_loop _ _ _ _ _ _ _ _ _ (loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B X1 X4 X15 hX1 hX4 k1 hX15 v32 v34 h34 v37 h37 v45 h45 init) (kk := kk) (Q := Q)
  rw [t] at h
  exact h

end Cert.KernelIdeal.Hand

end
-- ==== Proof.T1.lean ====
/- The groups of 32 rows of a block, one after the other. -/
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.T2
public import proofs.«01_k».proof.Proof.T3

@[expose] public section

set_option maxRecDepth 16384

noncomputable section

namespace Cert.KernelIdeal.Hand

open Cert.KernelIdeal Cert.KernelIdeal.Gen Cert.Spec Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
variable (arg1 : Memref sig .tc .vmem S128x8192 .bf16) (harg1 : arg1.IsWhole) (arg2 : Memref sig .tc .vmem S1x1x128 .f32) (harg2 : arg2.IsWhole) (arg3 : Memref sig .tc .vmem S1x8192 .f32) (harg3 : arg3.IsWhole)
  (arg4 : Memref sig .tc .vmem S128x8192 .bf16) (harg4 : arg4.IsWhole) (arg5 : Memref sig .tc .vmem S128x8192 .bf16) (harg5 : arg5.IsWhole) (arg6 : Memref sig .tc .vmem S128x8192 .bf16) (harg6 : arg6.IsWhole)
  (arg7 : Memref sig .tc .vmem S128x8192 .bf16) (harg7 : arg7.IsWhole) (arg8 : Memref sig .tc .vmem S128x8192 .bf16) (harg8 : arg8.IsWhole) (arg9 : Memref sig .tc .vmem S1x8192 .f32) (harg9 : arg9.IsWhole)
  (arg10 : Memref sig .tc .vmem S1x8x8192 .f32) (harg10 : arg10.IsWhole) (arg11 : Memref sig .tc .vmem S128x8192 .fp8e4m3) (harg11 : arg11.IsWhole) (arg12 : Memref sig .tc .vmem S128x64 .f32) (harg12 : arg12.IsWhole)
  (arg13 : Memref sig .tc .vmem S128x8192 .fp8e4m3) (harg13 : arg13.IsWhole) (arg14 : Memref sig .tc .vmem S1x8x8192 .f32) (harg14 : arg14.IsWhole) (arg15 : Memref sig .tc .vmem S32x8192 .f32) (harg15 : arg15.IsWhole)
  (arg16 : Memref sig .tc .vmem S128x8192 .f32) (harg16 : arg16.IsWhole) (arg17 : Memref sig .tc .vmem S128x128 .f32) (harg17 : arg17.IsWhole)
  (arg18 : Memref sig .tc .vmem S8x8192 .f32) (harg18 : arg18.IsWhole) (arg19 : Memref sig .tc .vmem S8x8192 .f32) (harg19 : arg19.IsWhole)
variable (B : Blk) (X1 : BufTy.Contents (Elt Ideal) arg1.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X17 : BufTy.Contents (Elt Ideal) arg17.view.ty)

/-- What holds before each group of 32 rows: the inputs; for the rows passed the gradient, its quantisation and the scales;
    the running sums and maxima of the columns. -/
def inv1 (k : ℕ) : sProp 𝕄 :=
  iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg17.view.loc (c : Thread nD τ) ↦[arg17.view.set]{fullShare} X17)
    ∗ (∃ f, (arg8.view.loc (c : Thread nD τ) ↦[arg8.view.set]{fullShare} f) ∗ ⌜∀ (p : Fin 128) (j : Fin 8192), p.val < 32 * k → arg8.view.read (Elt Ideal) f (ix2 p j) = B.dx p.val j.val⌝)
    ∗ (∃ f, (arg11.view.loc (c : Thread nD τ) ↦[arg11.view.set]{fullShare} f) ∗ ⌜∀ (p : Fin 128) (j : Fin 8192), p.val < 32 * k → arg11.view.read (Elt Ideal) f (ix2 p j) = quant (B.rowBits p.val (j.val / 128)) (B.dx p.val j.val)⌝)
    ∗ (∃ f, (arg12.view.loc (c : Thread nD τ) ↦[arg12.view.set]{fullShare} f) ∗ ⌜∀ (p : Fin 128) (u : Fin 64), p.val < 32 * k → arg12.view.read (Elt Ideal) f (ix2 p u) = scaleOf (B.rowBits p.val u.val)⌝)
    ∗ (∃ f, (arg15.view.loc (c : Thread nD τ) ↦[arg15.view.set]{fullShare} f))
    ∗ (∃ f, (arg16.view.loc (c : Thread nD τ) ↦[arg16.view.set]{fullShare} f) ∗ ⌜∀ (p : Fin 128) (j : Fin 8192), p.val < 32 * k → arg16.view.read (Elt Ideal) f (ix2 p j) = B.dx p.val j.val⌝)
    ∗ (∃ f, (arg18.view.loc (c : Thread nD τ) ↦[arg18.view.set]{fullShare} f) ∗ ⌜∀ (s : Fin 8) (j : Fin 8192), arg18.view.read (Elt Ideal) f (ix2 s j) = B.dgUpTo (4 * k) s.val j.val⌝)
    ∗ (∃ f, (arg19.view.loc (c : Thread nD τ) ↦[arg19.view.set]{fullShare} f) ∗ ⌜∀ (s : Fin 8) (j : Fin 8192), arg19.view.read (Elt Ideal) f (ix2 s j) = B.cmUpTo (4 * k) s.val j.val⌝))

set_option warn.classDefReducibility false in
set_option maxHeartbeats 2000000 in
/-- The groups of rows, as an invariant. -/
def loop1 (hX1 : ∀ p j, arg1.view.read (Elt Ideal) X1 (ix2 p j) = B.x p.val j.val)
    (hX4 : ∀ p j, arg4.view.read (Elt Ideal) X4 (ix2 p j) = B.dr p.val j.val)
    (hX5 : ∀ p j, arg5.view.read (Elt Ideal) X5 (ix2 p j) = B.q p.val j.val)
    (hX6 : ∀ p j, arg6.view.read (Elt Ideal) X6 (ix2 p j) = B.k p.val j.val)
    (hX7 : ∀ p j, arg7.view.read (Elt Ideal) X7 (ix2 p j) = B.v p.val j.val)
    (hX3 : ∀ j, arg3.view.read (Elt Ideal) X3 (ix2 0 j) = B.γ j.val) (hX17 : ∀ p l, arg17.view.read (Elt Ideal) X17 (ix2 p l) = B.r p.val) (init : Unit) :
    Idealize.ShloMosaic.LoopInv (M := 𝕄) Idealize.ShloMosaic.frame (wpE (defs₀ (F := Ideal)) Variants.none (c : Thread nD τ) none) Set.univ
      k0_t1_loop.lb k0_t1_loop.ub k0_t1_loop.st k0_t1_ok init (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) where
  inv := fun k _ => inv1 c arg1 arg3 arg4 arg5 arg6 arg7 arg8 arg11 arg12 arg15 arg16 arg17 arg18 arg19 B X1 X3 X4 X5 X6 X7 X17 k
  step := fun k acc => by
    unfold k0_t1_body inv1
    have hk : k.val < 4 := lt_of_lt_of_le k.isLt k0_t1_abs.2.1
    have t2 : Scf.trips k0_t2_loop.lb k0_t2_loop.ub k0_t2_loop.st = 32 := by decide
    have t3 : Scf.trips k0_t3_loop.lb k0_t3_loop.ub k0_t3_loop.st = 32 := by decide
    iintro ⟨H1, H3, H4, H5, H6, H7, H17, ⟨%f8, H8, %h8⟩, ⟨%f11, H11, %h11⟩, ⟨%f12, H12, %h12⟩, ⟨%f15, H15⟩, ⟨%f16, H16, %h16⟩, ⟨%f18, H18, %h18⟩, ⟨%f19, H19, %h19⟩⟩
    sl_exec
    have e34 : ∀ (p : Fin 32) (l : Fin 128), arg17.view.readAt (Elt Ideal) (Rect.unit (s := S128x128) (k0_off1 k) S32x128.size (k0_off1_inb k)).toLoadRect X17 (ix2 p l) = B.r (32 * k.val + p.val) :=
      fun p l => (load2 _ _ _ (k0_off1_eq k) p l (by omega) (by omega)).trans (hX17 _ _)
    have e45 : ∀ (s : Fin 8) (l : Fin 128), (iota .tc S8x128 32 [1] iota_S8x128_d1_w32 : IVec S8x128 32) (ix2 s l) = BitVec.ofNat 32 l.val := fun s l => by pointwise
    iapply (enter2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B X1 X3 X5 X6 X7 hX1 hX5 hX6 hX7 hX3 k _ _ e34 k0_pay54) $$ [H1 H3 H5 H6 H7 H15 H18]
    · unfold inv2
      isplitl [H1]; · iexact H1
      isplitl [H3]; · iexact H3
      isplitl [H5]; · iexact H5
      isplitl [H6]; · iexact H6
      isplitl [H7]; · iexact H7
      isplitl [H15]
      · iexists _; isplitl; · iexact H15
        ipureintro
        intro p j hj
        exact absurd hj (by omega)
      isplitl [H18]
      · iexists _; isplitl; · iexact H18
        ipureintro
        intro s j
        rw [if_neg (by omega)]
        exact h18 s j
      ipureintro
      intro p l
      rw [pay54_at]
      rfl
    unfold inv2
    iintro %v37 ⟨H1, H3, H5, H6, H7, ⟨%g15, H15, %e15⟩, ⟨%g18, H18, %e18⟩, %e37⟩
    iapply (enter3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B X1 X4 g15 hX1 hX4 k (fun p j => e15 p j (by omega)) _ _ e34 v37 e37 _ e45 (k0_pay63, k0_pay63, k0_pay63, k0_pay63)) $$ [H1 H4 H15 H8 H11 H16 H19]
    · unfold inv3
      isplitl [H1]; · iexact H1
      isplitl [H4]; · iexact H4
      isplitl [H15]; · iexact H15
      isplitl [H8]
      · iexists _; isplitl; · iexact H8
        ipureintro
        intro p j hj
        exact h8 p j (by unfold Passed at hj; omega)
      isplitl [H11]
      · iexists _; isplitl; · iexact H11
        ipureintro
        intro p j hj
        exact h11 p j (by unfold Passed at hj; omega)
      isplitl [H16]
      · iexists _; isplitl; · iexact H16
        ipureintro
        intro p j hj
        exact h16 p j (by unfold Passed at hj; omega)
      isplitl [H19]
      · iexists _; isplitl; · iexact H19
        ipureintro
        intro s j
        rw [if_neg (by omega)]
        exact h19 s j
      ipureintro
      have h0 : ∀ (q : ℕ) (s : Fin 8) (l : Fin 128), k0_pay63 (ix2 s l) = carried B q 0 l.val := fun q s l => (pay63_at s l).trans (if_neg (by omega)).symm
      exact ⟨fun s l => h0 _ s l, fun s l => h0 _ s l, fun s l => h0 _ s l, fun s l => h0 _ s l⟩
    unfold inv3
    iintro %cs ⟨H1, H4, H15, ⟨%g8, H8, %e8⟩, ⟨%g11, H11, %e11⟩, ⟨%g16, H16, %e16⟩, ⟨%g19, H19, %e19⟩, %ec⟩
    obtain ⟨c0, c1, c2, c3⟩ := cs
    sl_exec
    sl_step
    isplitl [H1]; · iexact H1
    isplitl [H3]; · iexact H3
    isplitl [H4]; · iexact H4
    isplitl [H5]; · iexact H5
    isplitl [H6]; · iexact H6
    isplitl [H7]; · iexact H7
    isplitl [H17]; · iexact H17
    isplitl [H8]
    · iexists _; isplitl; · iexact H8
      ipureintro
      intro p j hj
      exact e8 p j (by unfold Passed; omega)
    isplitl [H11]
    · iexists _; isplitl; · iexact H11
      ipureintro
      intro p j hj
      exact e11 p j (by unfold Passed; omega)
    isplitl [H12]
    · iexists _; isplitl; · iexact H12
      ipureintro
      intro p u hp
      by_cases hin : 32 * k.val ≤ p.val ∧ p.val < 32 * k.val + 32
      · refine (store2_in (H := 32) (W := 64) _ _ _ _ _ (k0_off10_eq k) p u hin (by omega)).trans ?_
        refine (pay64_at B (32 * k.val) c0 c1 c2 c3 ec.1 ec.2.1 ec.2.2.1 ec.2.2.2 _ _).trans ?_
        exact congrArg scaleOf (congrArg₂ B.rowBits (by first | omega | (dsimp only; omega)) (by first | omega | (dsimp only; omega)))
      refine (store2_out (H := 32) (W := 64) _ _ _ _ _ (k0_off10_eq k) p u (by omega)).trans ?_
      rw [View.writes_nil]
      exact h12 p u (by omega)
    isplitl [H15]; · iexists _; iexact H15
    isplitl [H16]
    · iexists _; isplitl; · iexact H16
      ipureintro
      intro p j hj
      exact e16 p j (by unfold Passed; omega)
    isplitl [H18]
    · iexists _; isplitl; · iexact H18
      ipureintro
      intro s j
      rw [e18, if_pos (by omega), Nat.mul_add, Nat.mul_one]
    iexists _; isplitl; · iexact H19
    ipureintro
    intro s j
    rw [e19, if_pos (by omega), Nat.mul_add, Nat.mul_one]

/-- Going through the loop: its invariant at the start, then the rest from its invariant at the end. -/
theorem enter1 (hX1 : ∀ p j, arg1.view.read (Elt Ideal) X1 (ix2 p j) = B.x p.val j.val)
    (hX4 : ∀ p j, arg4.view.read (Elt Ideal) X4 (ix2 p j) = B.dr p.val j.val)
    (hX5 : ∀ p j, arg5.view.read (Elt Ideal) X5 (ix2 p j) = B.q p.val j.val)
    (hX6 : ∀ p j, arg6.view.read (Elt Ideal) X6 (ix2 p j) = B.k p.val j.val)
    (hX7 : ∀ p j, arg7.view.read (Elt Ideal) X7 (ix2 p j) = B.v p.val j.val)
    (hX3 : ∀ j, arg3.view.read (Elt Ideal) X3 (ix2 0 j) = B.γ j.val) (hX17 : ∀ p l, arg17.view.read (Elt Ideal) X17 (ix2 p l) = B.r p.val) (init : Unit) {β : Type} {kk : Unit → Prog (TpuEff nD τ sig (Elt Ideal) Λ₀ .tc) β} {Q : β → sProp 𝕄} :
    inv1 c arg1 arg3 arg4 arg5 arg6 arg7 arg8 arg11 arg12 arg15 arg16 arg17 arg18 arg19 B X1 X3 X4 X5 X6 X7 X17 0 ⊢ iprop((∀ acc, inv1 c arg1 arg3 arg4 arg5 arg6 arg7 arg8 arg11 arg12 arg15 arg16 arg17 arg18 arg19 B X1 X3 X4 X5 X6 X7 X17 4 -∗ wp Idealize.ShloMosaic.frame (wpE (defs₀ (F := Ideal)) Variants.none (c : Thread nD τ) none) Set.univ (kk acc) Q)
      -∗ wp Idealize.ShloMosaic.frame (wpE (defs₀ (F := Ideal)) Variants.none (c : Thread nD τ) none) Set.univ (Scf.Loop.for k0_t1_loop k0_t1_ok init (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) >>= kk) Q) := by
  have t : Scf.trips k0_t1_loop.lb k0_t1_loop.ub k0_t1_loop.st = 4 := by decide
  have h := exec_loop _ _ _ _ _ _ _ _ _ (loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B X1 X3 X4 X5 X6 X7 X17 hX1 hX4 hX5 hX6 hX7 hX3 hX17 init) (kk := kk) (Q := Q)
  rw [t] at h
  exact h

end Cert.KernelIdeal.Hand

end
-- ==== Proof.PayE.lean ====
/- What one trip over 128 columns stores: the block's part of the weight's gradient, the running weight's gradient, the scales of the columns
   and the quantised columns, at an index. -/
module

public import proofs.«01_k».proof.Proof.PayC
public import proofs.«01_k».proof.Proof.PayD

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

theorem raw41 (v34 : Vec Ideal S8x128 .f32) (l : Fin 128) : k0_pay41 v34 (ix2 0 l) = ∑ s : Fin 8, v34 (ix2 s l) := by
  pointwise [k0_pay41]

theorem raw42 (v29 : IVec S8x128 1) (v34 : Vec Ideal S8x128 .f32) (v38 : Vec Ideal S1x8x128 .f32) (s : Fin 8) (l : Fin 128) :
    k0_pay42 v29 v34 v38 (ix3 0 s l) = Scalar.select (v29 (ix2 s l)) (v38 (ix3 0 s l)) (∑ s : Fin 8, v34 (ix2 s l)) := by
  pointwise [k0_pay42, k0_pay41]

theorem raw43 (a : BitVec 32) (v34 : Vec Ideal S8x128 .f32) (v49 : Vec Ideal S1x128 .f32) (l : Fin 128) :
    k0_pay43 a v34 v49 (ix2 0 l) = Scalar.select (Scalar.cmpi .eq a 0#32) (∑ s : Fin 8, v34 (ix2 s l)) (v49 (ix2 0 l) + ∑ s : Fin 8, v34 (ix2 s l)) := by
  pointwise [k0_pay43, k0_pay41]

theorem raw44 (v56 : Vec Ideal S8x128 .f32) (l : Fin 128) :
    k0_pay44 v56 (ix2 0 l) = Finset.univ.fold max (Ideal.ofBits .f32 0xFF800000#32) (fun s : Fin 8 => v56 (ix2 s l)) * Ideal.ofBits .f32 0x3B124925#32 := by
  pointwise [k0_pay44]

theorem raw47 (v : Vec Ideal S1x8x128 .f32) (s : Fin 8) (l : Fin 128) : k0_pay47 v (ix2 s l) = v (ix3 0 s l) := by
  pointwise [k0_pay47]

theorem raw1 (v29 : IVec S8x128 1) (v108 : FVec Ideal S8x128 .f32) (v111 : FVec Ideal S1x128 .f32) (v116 : IVec S1x128 1) (v117 : FVec Ideal S1x128 .f32) (s : Fin 8) (l : Fin 128) :
    k0_pay1 v29 v108 v111 v116 v117 (ix3 0 s l)
      = Scalar.select (v29 (ix2 s l)) (v108 (ix2 s l)) (Scalar.select (v116 (ix2 0 l)) (v117 (ix2 0 l)) (v111 (ix2 0 l))) := by
  pointwise [k0_pay1]

variable (B : Blk) (b : ℕ)

theorem pay42_at (n : ℕ) (v29 : IVec S8x128 1) (h29 : ∀ s l, v29 (ix2 s l) = if s.val < n then 1#1 else 0#1) (v34 : Vec Ideal S8x128 .f32)
    (h34 : ∀ s l, v34 (ix2 s l) = B.dgUpTo 16 s.val (b + l.val)) (v38 : Vec Ideal S1x8x128 .f32) (s : Fin 8) (l : Fin 128) :
    k0_pay42 v29 v34 v38 (ix3 0 s l) = if s.val < n then v38 (ix3 0 s l) else B.part (b + l.val) := by
  rw [raw42, h29, select_ite]
  simp only [h34, Blk.part]

theorem pay43_at (a : BitVec 32) (P : Prop) [Decidable P] (ha : Scalar.cmpi .eq a 0#32 = if P then 1#1 else 0#1) (v34 : Vec Ideal S8x128 .f32)
    (h34 : ∀ s l, v34 (ix2 s l) = B.dgUpTo 16 s.val (b + l.val)) (v49 : Vec Ideal S1x128 .f32) (l : Fin 128) :
    k0_pay43 a v34 v49 (ix2 0 l) = if P then B.part (b + l.val) else v49 (ix2 0 l) + B.part (b + l.val) := by
  rw [raw43, ha, select_ite]
  simp only [h34, Blk.part]

theorem pay46_col (v56 : Vec Ideal S8x128 .f32) (h56 : ∀ s l, v56 (ix2 s l) = B.cmUpTo 16 s.val (b + l.val)) (l : Fin 128) :
    k0_pay46 (k0_pay44 v56) (k0_pay45 v56) (ix2 0 l) = B.colBits (b + l.val) := by
  rw [pay46_at, raw44]
  simp only [h56, Blk.colBits]

theorem scale_col (m : FVec Ideal S1x128 .f32) (w : IVec S1x128 32) (y : S1x128.Idx) :
    Scalar.select (k0_pay49 m w y) ((k0_pay50 : FVec Ideal S1x128 .f32) y) (k0_pay48 m w y) = scaleOf (k0_pay46 m w y) := by
  simp only [k0_pay49, k0_pay48, k0_pay50]
  generalize k0_pay46 m w = b
  rw [scaleOf, trivialBits]
  rfl

theorem pay1_at (n : ℕ) (v29 : IVec S8x128 1) (h29 : ∀ s l, v29 (ix2 s l) = if s.val < n then 1#1 else 0#1) (v107 : Vec Ideal S1x8x128 .f32)
    (v56 : Vec Ideal S8x128 .f32) (h56 : ∀ s l, v56 (ix2 s l) = B.cmUpTo 16 s.val (b + l.val)) (s : Fin 8) (l : Fin 128) :
    k0_pay1 v29 (k0_pay47 v107) (k0_pay48 (k0_pay44 v56) (k0_pay45 v56)) (k0_pay49 (k0_pay44 v56) (k0_pay45 v56)) k0_pay50 (ix3 0 s l)
      = if s.val < n then v107 (ix3 0 s l) else scaleOf (B.colBits (b + l.val)) := by
  rw [raw1, scale_col, pay46_col B b v56 h56, h29, select_ite, raw47]

/-- A block quantised by a field per column, as the kernel writes it. -/
theorem quant_col_at (b : IVec S1x128 32) (d : FVec Ideal S128x128 .f32) (lo hi one : Ideal .f32) (z t k : BitVec 32) (h : FTy.fp8e4m3.bits < FTy.f32.bits) (p l : Fin 128) :
    truncf .fp8e4m3 (minimumf (broadcast S128x128 hi) (maximumf (broadcast S128x128 lo) (mulf d (broadcastTo S128x128 (select (ori (cmpi .eq b (broadcast S1x128 z)) (cmpi .eq b (broadcast S1x128 t)))
      (broadcast S1x128 one) (bitcastToFloat .f32 (subi (broadcast S1x128 k) b : IVec S1x128 32))) broadcasts_S1x128_S128x128)))) h (ix2 p l)
      = min hi (max lo (d (ix2 p l) * (Scalar.select (IntOp.ori (IntOp.cmpi .eq (b (ix2 0 l)) z) (IntOp.cmpi .eq (b (ix2 0 l)) t)) one
        (FloatOps.ofBits (F := Ideal) .f32 (IntOp.subi k (b (ix2 0 l)) : BitVec 32))))) := by
  pointwise

theorem raw2 (v105 : IVec S1x128 32) (v127 : Vec Ideal S128x128 .f32) (p l : Fin 128) :
    k0_pay2 v105 v127 (ix2 p l) = quant (v105 (ix2 0 l)) (v127 (ix2 p l)) := by
  simp only [k0_pay2]
  rw [quant_col_at, quant, inverseOf, trivialBits]
  rfl

theorem pay2_at (v56 : Vec Ideal S8x128 .f32) (h56 : ∀ s l, v56 (ix2 s l) = B.cmUpTo 16 s.val (b + l.val)) (v127 : Vec Ideal S128x128 .f32) (p l : Fin 128) :
    k0_pay2 (k0_pay46 (k0_pay44 v56) (k0_pay45 v56)) v127 (ix2 p l) = quant (B.colBits (b + l.val)) (v127 (ix2 p l)) := by
  rw [raw2, pay46_col B b v56 h56]

/-- The comparison of the row within a group of eight with the point's place in its group. -/
theorem place_lt : ∀ n : Fin 128, ∀ s : Fin 8, IntOp.cmpi .slt (BitVec.ofNat 32 s.val) (let v20 := Scalar.remsi (BitVec.ofNat 32 n.val) (Scalar.select (Scalar.cmpi .eq 8#32 0#32) 1#32 8#32)
    Scalar.select (Scalar.andi (Scalar.xori (Scalar.cmpi .slt v20 0#32) (Scalar.cmpi .slt (Scalar.select (Scalar.cmpi .eq 8#32 0#32) 1#32 8#32) 0#32)) (Scalar.cmpi .ne v20 0#32))
      (Scalar.addi v20 (Scalar.select (Scalar.cmpi .eq 8#32 0#32) 1#32 8#32)) v20) = if s.val < n.val % 8 then 1#1 else 0#1 := by
  decide +kernel

theorem pay65_at (i : grid0.Coords) (s : Fin 8) (l : Fin 128) : k0_pay65 i (ix2 s l) = if s.val < (i 0).val % 8 then 1#1 else 0#1 := by
  refine Eq.trans ?_ (place_lt (i 0) s)
  pointwise [k0_pay65]

theorem first_at (i : grid0.Coords) : Scalar.cmpi .eq (BitVec.ofNat 32 (i 0).val) 0#32 = if (i 0).val = 0 then 1#1 else 0#1 :=
  (by decide +kernel : ∀ n : Fin 128, Scalar.cmpi .eq (BitVec.ofNat 32 n.val) 0#32 = if n.val = 0 then 1#1 else 0#1) (i 0)

end Cert.KernelIdeal.Hand

end
-- ==== Proof.T4.lean ====
/- The trips over 128 columns at a time that finish a block. -/
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.PayE
public import proofs.«01_k».proof.Proof.Offs
public import proofs.«01_k».proof.Proof.Reads

@[expose] public section

set_option maxRecDepth 16384

noncomputable section

namespace Cert.KernelIdeal.Hand

open Cert.KernelIdeal Cert.KernelIdeal.Gen Cert.Spec Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
variable (arg1 : Memref sig .tc .vmem S128x8192 .bf16) (harg1 : arg1.IsWhole) (arg2 : Memref sig .tc .vmem S1x1x128 .f32) (harg2 : arg2.IsWhole) (arg3 : Memref sig .tc .vmem S1x8192 .f32) (harg3 : arg3.IsWhole)
  (arg4 : Memref sig .tc .vmem S128x8192 .bf16) (harg4 : arg4.IsWhole) (arg5 : Memref sig .tc .vmem S128x8192 .bf16) (harg5 : arg5.IsWhole) (arg6 : Memref sig .tc .vmem S128x8192 .bf16) (harg6 : arg6.IsWhole)
  (arg7 : Memref sig .tc .vmem S128x8192 .bf16) (harg7 : arg7.IsWhole) (arg8 : Memref sig .tc .vmem S128x8192 .bf16) (harg8 : arg8.IsWhole) (arg9 : Memref sig .tc .vmem S1x8192 .f32) (harg9 : arg9.IsWhole)
  (arg10 : Memref sig .tc .vmem S1x8x8192 .f32) (harg10 : arg10.IsWhole) (arg11 : Memref sig .tc .vmem S128x8192 .fp8e4m3) (harg11 : arg11.IsWhole) (arg12 : Memref sig .tc .vmem S128x64 .f32) (harg12 : arg12.IsWhole)
  (arg13 : Memref sig .tc .vmem S128x8192 .fp8e4m3) (harg13 : arg13.IsWhole) (arg14 : Memref sig .tc .vmem S1x8x8192 .f32) (harg14 : arg14.IsWhole) (arg15 : Memref sig .tc .vmem S32x8192 .f32) (harg15 : arg15.IsWhole)
  (arg16 : Memref sig .tc .vmem S128x8192 .f32) (harg16 : arg16.IsWhole) (arg17 : Memref sig .tc .vmem S128x128 .f32) (harg17 : arg17.IsWhole)
  (arg18 : Memref sig .tc .vmem S8x8192 .f32) (harg18 : arg18.IsWhole) (arg19 : Memref sig .tc .vmem S8x8192 .f32) (harg19 : arg19.IsWhole)
variable (B : Blk) (X9 : BufTy.Contents (Elt Ideal) arg9.view.ty) (X10 : BufTy.Contents (Elt Ideal) arg10.view.ty) (X14 : BufTy.Contents (Elt Ideal) arg14.view.ty) (X16 : BufTy.Contents (Elt Ideal) arg16.view.ty) (X18 : BufTy.Contents (Elt Ideal) arg18.view.ty) (X19 : BufTy.Contents (Elt Ideal) arg19.view.ty) (a : BitVec 32) (v29 : IVec S8x128 1)

/-- What holds before each trip over 128 columns: the inputs; for the columns passed the weight's gradient, the block's part of it, the
    scales and the quantised columns; for the rest what was there before. -/
def inv4 (k : ℕ) : sProp 𝕄 :=
  iprop((arg16.view.loc (c : Thread nD τ) ↦[arg16.view.set]{fullShare} X16) ∗ (arg18.view.loc (c : Thread nD τ) ↦[arg18.view.set]{fullShare} X18) ∗ (arg19.view.loc (c : Thread nD τ) ↦[arg19.view.set]{fullShare} X19)
    ∗ (∃ f, (arg9.view.loc (c : Thread nD τ) ↦[arg9.view.set]{fullShare} f) ∗ ⌜∀ (j : Fin 8192), arg9.view.read (Elt Ideal) f (ix2 0 j) = if j.val < 128 * k then (if (i 0).val = 0 then B.part j.val else arg9.view.read (Elt Ideal) X9 (ix2 0 j) + B.part j.val) else arg9.view.read (Elt Ideal) X9 (ix2 0 j)⌝)
    ∗ (∃ f, (arg10.view.loc (c : Thread nD τ) ↦[arg10.view.set]{fullShare} f) ∗ ⌜∀ (s : Fin 8) (j : Fin 8192), arg10.view.read (Elt Ideal) f (ix3 0 s j) = if j.val < 128 * k ∧ (i 0).val % 8 ≤ s.val then B.part j.val else arg10.view.read (Elt Ideal) X10 (ix3 0 s j)⌝)
    ∗ (∃ f, (arg13.view.loc (c : Thread nD τ) ↦[arg13.view.set]{fullShare} f) ∗ ⌜∀ (p : Fin 128) (j : Fin 8192), j.val < 128 * k → arg13.view.read (Elt Ideal) f (ix2 p j) = quant (B.colBits j.val) (B.dx p.val j.val)⌝)
    ∗ (∃ f, (arg14.view.loc (c : Thread nD τ) ↦[arg14.view.set]{fullShare} f) ∗ ⌜∀ (s : Fin 8) (j : Fin 8192), arg14.view.read (Elt Ideal) f (ix3 0 s j) = if j.val < 128 * k ∧ (i 0).val % 8 ≤ s.val then scaleOf (B.colBits j.val) else arg14.view.read (Elt Ideal) X14 (ix3 0 s j)⌝))

set_option warn.classDefReducibility false in
set_option maxHeartbeats 2000000 in
/-- The trips over the columns, as an invariant. -/
def loop4 (hX16 : ∀ p j, arg16.view.read (Elt Ideal) X16 (ix2 p j) = B.dx p.val j.val)
    (hX18 : ∀ s j, arg18.view.read (Elt Ideal) X18 (ix2 s j) = B.dgUpTo 16 s.val j.val)
    (hX19 : ∀ s j, arg19.view.read (Elt Ideal) X19 (ix2 s j) = B.cmUpTo 16 s.val j.val)
    (h29 : ∀ s l, v29 (ix2 s l) = if s.val < (i 0).val % 8 then 1#1 else 0#1)
    (ha : Scalar.cmpi .eq a 0#32 = if (i 0).val = 0 then 1#1 else 0#1) (c0 c1 : BitVec 32) (init : Unit) :
    Idealize.ShloMosaic.LoopInv (M := 𝕄) Idealize.ShloMosaic.frame (wpE (defs₀ (F := Ideal)) Variants.none (c : Thread nD τ) none) Set.univ
      k0_t4_loop.lb k0_t4_loop.ub k0_t4_loop.st k0_t4_ok init (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a v29 c0 c1) where
  inv := fun k _ => inv4 c i arg9 arg10 arg13 arg14 arg16 arg18 arg19 B X9 X10 X14 X16 X18 X19 k
  step := fun k acc => by
    unfold k0_t4_body inv4
    have hk : k.val < 64 := lt_of_lt_of_le k.isLt k0_t4_abs.2.1
    iintro ⟨H16, H18, H19, ⟨%f9, H9, %h9⟩, ⟨%f10, H10, %h10⟩, ⟨%f13, H13, %h13⟩, ⟨%f14, H14, %h14⟩⟩
    sl_exec
    sl_step
    have e34 : ∀ (s : Fin 8) (l : Fin 128), arg18.view.readAt (Elt Ideal) (Rect.unit (s := S8x8192) (k0_off11 k) S8x128.size (k0_off11_inb k)).toLoadRect X18 (ix2 s l) = B.dgUpTo 16 s.val (128 * k.val + l.val) :=
      fun s l => (load2 _ _ _ (k0_off11_eq k) s l (by omega) (by omega)).trans ((hX18 _ _).trans (congrArg₂ (B.dgUpTo 16) (by first | rfl | omega | (dsimp only; omega)) (by first | rfl | omega | (dsimp only; omega))))
    have e56 : ∀ (s : Fin 8) (l : Fin 128), arg19.view.readAt (Elt Ideal) (Rect.unit (s := S8x8192) (k0_off11 k) S8x128.size (k0_off11_inb k)).toLoadRect X19 (ix2 s l) = B.cmUpTo 16 s.val (128 * k.val + l.val) :=
      fun s l => (load2 _ _ _ (k0_off11_eq k) s l (by omega) (by omega)).trans ((hX19 _ _).trans (congrArg₂ (B.cmUpTo 16) (by first | rfl | omega | (dsimp only; omega)) (by first | rfl | omega | (dsimp only; omega))))
    isplitl [H16]; · iexact H16
    isplitl [H18]; · iexact H18
    isplitl [H19]; · iexact H19
    isplitl [H9]
    · iexists _; isplitl; · iexact H9
      ipureintro
      intro j
      by_cases hin : 128 * k.val ≤ j.val ∧ j.val < 128 * k.val + 128
      · refine (store2_in (H := 1) (W := 128) _ _ _ _ _ (k0_off13_eq k) 0 j (by omega) hin).trans ?_
        refine (pay43_at B (128 * k.val) a _ ha _ e34 _ _).trans ?_
        rw [if_pos (show j.val < 128 * (k.val + 1) by omega)]
        refine if_congr Iff.rfl (congrArg B.part (by first | rfl | omega | (dsimp only; omega))) (congrArg₂ (· + ·) ?_ (congrArg B.part (by first | rfl | omega | (dsimp only; omega))))
        refine (load2 _ _ _ (k0_off13_eq k) _ _ (by omega) (by first | rfl | omega | (dsimp only; omega))).trans ((h9 _).trans ?_)
        rw [if_neg (by first | rfl | omega | (dsimp only; omega))]
        exact congrArg (fun z => arg9.view.read (Elt Ideal) X9 (ix2 0 z)) (Fin.ext (by first | rfl | omega | (dsimp only; omega)))
      refine (store2_out (H := 1) (W := 128) _ _ _ _ _ (k0_off13_eq k) 0 j (by omega)).trans ?_
      rw [View.writes_nil, h9]
      exact if_congr (by omega) rfl rfl
    isplitl [H10]
    · iexists _; isplitl; · iexact H10
      ipureintro
      intro s j
      by_cases hin : 128 * k.val ≤ j.val ∧ j.val < 128 * k.val + 128
      · refine (store3_in (H := 8) (W := 128) _ _ _ _ _ (k0_off12_eq k) s j (by omega) hin).trans ?_
        refine (pay42_at B (128 * k.val) _ _ h29 _ e34 _ _ _).trans ?_
        by_cases hs : s.val < (i 0).val % 8
        · rw [if_pos (by first | rfl | omega | (dsimp only; omega)), if_neg (by omega)]
          refine (load3 _ _ _ (k0_off12_eq k) _ _ _ (by first | rfl | omega | (dsimp only; omega)) (by first | rfl | omega | (dsimp only; omega)) (by first | rfl | omega | (dsimp only; omega))).trans ((h10 _ _).trans ?_)
          rw [if_neg (by first | rfl | omega | (dsimp only; omega))]
          exact congrArg₂ (fun y z => arg10.view.read (Elt Ideal) X10 (ix3 0 y z)) (Fin.ext (by first | rfl | omega | (dsimp only; omega))) (Fin.ext (by first | rfl | omega | (dsimp only; omega)))
        rw [if_neg (by first | rfl | omega | (dsimp only; omega)), if_pos (by omega)]
        exact congrArg B.part (by first | rfl | omega | (dsimp only; omega))
      refine (store3_out (H := 8) (W := 128) _ _ _ _ _ (k0_off12_eq k) s j (by omega)).trans ?_
      rw [View.writes_nil, h10]
      exact if_congr (by omega) rfl rfl
    isplitl [H13]
    · iexists _; isplitl; · iexact H13
      ipureintro
      intro p j hj
      by_cases hin : 128 * k.val ≤ j.val ∧ j.val < 128 * k.val + 128
      · refine (store2_in (H := 128) (W := 128) _ _ _ _ _ (k0_off14_eq k) p j (by omega) hin).trans ?_
        refine (pay2_at B (128 * k.val) _ e56 _ _ _).trans ?_
        refine congrArg₂ quant (congrArg B.colBits (by first | rfl | omega | (dsimp only; omega))) ((load2 _ _ _ (k0_off14_eq k) _ _ (by first | rfl | omega | (dsimp only; omega)) (by first | rfl | omega | (dsimp only; omega))).trans ((hX16 _ _).trans (congrArg₂ B.dx (by first | rfl | omega | (dsimp only; omega)) (by first | rfl | omega | (dsimp only; omega)))))
      refine (store2_out (H := 128) (W := 128) _ _ _ _ _ (k0_off14_eq k) p j (by omega)).trans ?_
      rw [View.writes_nil]
      exact h13 p j (by omega)
    iexists _; isplitl; · iexact H14
    ipureintro
    intro s j
    by_cases hin : 128 * k.val ≤ j.val ∧ j.val < 128 * k.val + 128
    · refine (store3_in (H := 8) (W := 128) _ _ _ _ _ (k0_off12_eq k) s j (by omega) hin).trans ?_
      refine (pay1_at B (128 * k.val) _ _ h29 _ _ e56 _ _).trans ?_
      by_cases hs : s.val < (i 0).val % 8
      · rw [if_pos (by first | rfl | omega | (dsimp only; omega)), if_neg (by omega)]
        refine (load3 _ _ _ (k0_off12_eq k) _ _ _ (by first | rfl | omega | (dsimp only; omega)) (by first | rfl | omega | (dsimp only; omega)) (by first | rfl | omega | (dsimp only; omega))).trans ((h14 _ _).trans ?_)
        rw [if_neg (by first | rfl | omega | (dsimp only; omega))]
        exact congrArg₂ (fun y z => arg14.view.read (Elt Ideal) X14 (ix3 0 y z)) (Fin.ext (by first | rfl | omega | (dsimp only; omega))) (Fin.ext (by first | rfl | omega | (dsimp only; omega)))
      rw [if_neg (by first | rfl | omega | (dsimp only; omega)), if_pos (by omega)]
      exact congrArg scaleOf (congrArg B.colBits (by first | rfl | omega | (dsimp only; omega)))
    refine (store3_out (H := 8) (W := 128) _ _ _ _ _ (k0_off12_eq k) s j (by omega)).trans ?_
    rw [View.writes_nil, h14]
    exact if_congr (by omega) rfl rfl

/-- Going through the loop: its invariant at the start, then the rest from its invariant at the end. -/
theorem enter4 (hX16 : ∀ p j, arg16.view.read (Elt Ideal) X16 (ix2 p j) = B.dx p.val j.val)
    (hX18 : ∀ s j, arg18.view.read (Elt Ideal) X18 (ix2 s j) = B.dgUpTo 16 s.val j.val)
    (hX19 : ∀ s j, arg19.view.read (Elt Ideal) X19 (ix2 s j) = B.cmUpTo 16 s.val j.val)
    (h29 : ∀ s l, v29 (ix2 s l) = if s.val < (i 0).val % 8 then 1#1 else 0#1)
    (ha : Scalar.cmpi .eq a 0#32 = if (i 0).val = 0 then 1#1 else 0#1) (c0 c1 : BitVec 32) (init : Unit) {β : Type} {kk : Unit → Prog (TpuEff nD τ sig (Elt Ideal) Λ₀ .tc) β} {Q : β → sProp 𝕄} :
    inv4 c i arg9 arg10 arg13 arg14 arg16 arg18 arg19 B X9 X10 X14 X16 X18 X19 0 ⊢ iprop((∀ acc, inv4 c i arg9 arg10 arg13 arg14 arg16 arg18 arg19 B X9 X10 X14 X16 X18 X19 64 -∗ wp Idealize.ShloMosaic.frame (wpE (defs₀ (F := Ideal)) Variants.none (c : Thread nD τ) none) Set.univ (kk acc) Q)
      -∗ wp Idealize.ShloMosaic.frame (wpE (defs₀ (F := Ideal)) Variants.none (c : Thread nD τ) none) Set.univ (Scf.Loop.for k0_t4_loop k0_t4_ok init (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 a v29 c0 c1) >>= kk) Q) := by
  have t : Scf.trips k0_t4_loop.lb k0_t4_loop.ub k0_t4_loop.st = 64 := by decide
  have h := exec_loop _ _ _ _ _ _ _ _ _ (loop4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B X9 X10 X14 X16 X18 X19 a v29 hX16 hX18 hX19 h29 ha c0 c1 init) (kk := kk) (Q := Q)
  rw [t] at h
  exact h

end Cert.KernelIdeal.Hand

end
-- ==== Proof.Body.lean ====
/- One point of the grid, with the values it leaves. -/
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.T1
public import proofs.«01_k».proof.Proof.T4

@[expose] public section

set_option maxRecDepth 16384

noncomputable section

namespace Cert.KernelIdeal.Hand

open Cert.KernelIdeal Cert.KernelIdeal.Gen Cert.Spec Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
variable (arg1 : Memref sig .tc .vmem S128x8192 .bf16) (harg1 : arg1.IsWhole) (arg2 : Memref sig .tc .vmem S1x1x128 .f32) (harg2 : arg2.IsWhole) (arg3 : Memref sig .tc .vmem S1x8192 .f32) (harg3 : arg3.IsWhole)
  (arg4 : Memref sig .tc .vmem S128x8192 .bf16) (harg4 : arg4.IsWhole) (arg5 : Memref sig .tc .vmem S128x8192 .bf16) (harg5 : arg5.IsWhole) (arg6 : Memref sig .tc .vmem S128x8192 .bf16) (harg6 : arg6.IsWhole)
  (arg7 : Memref sig .tc .vmem S128x8192 .bf16) (harg7 : arg7.IsWhole) (arg8 : Memref sig .tc .vmem S128x8192 .bf16) (harg8 : arg8.IsWhole) (arg9 : Memref sig .tc .vmem S1x8192 .f32) (harg9 : arg9.IsWhole)
  (arg10 : Memref sig .tc .vmem S1x8x8192 .f32) (harg10 : arg10.IsWhole) (arg11 : Memref sig .tc .vmem S128x8192 .fp8e4m3) (harg11 : arg11.IsWhole) (arg12 : Memref sig .tc .vmem S128x64 .f32) (harg12 : arg12.IsWhole)
  (arg13 : Memref sig .tc .vmem S128x8192 .fp8e4m3) (harg13 : arg13.IsWhole) (arg14 : Memref sig .tc .vmem S1x8x8192 .f32) (harg14 : arg14.IsWhole) (arg15 : Memref sig .tc .vmem S32x8192 .f32) (harg15 : arg15.IsWhole)
  (arg16 : Memref sig .tc .vmem S128x8192 .f32) (harg16 : arg16.IsWhole) (arg17 : Memref sig .tc .vmem S128x128 .f32) (harg17 : arg17.IsWhole)
  (arg18 : Memref sig .tc .vmem S8x8192 .f32) (harg18 : arg18.IsWhole) (arg19 : Memref sig .tc .vmem S8x8192 .f32) (harg19 : arg19.IsWhole)
/-! ## What a point leaves in the outputs' buffers -/

/-- The gradient's rows. -/
def outDx (B : Blk) : Vec Ideal S128x8192 .bf16 := fun y => B.dx (y 0).val (y 1).val
/-- The running weight's gradient, begun at the first point. -/
def outDg (n : ℕ) (B : Blk) (o : Vec Ideal S1x8192 .f32) : Vec Ideal S1x8192 .f32 :=
  fun y => if n = 0 then B.part (y 1).val else o y + B.part (y 1).val
/-- The block's part of the weight's gradient, in its own row of the group of eight and those after it. -/
def outDgp (n : ℕ) (B : Blk) (o : Vec Ideal S1x8x8192 .f32) : Vec Ideal S1x8x8192 .f32 :=
  fun y => if n % 8 ≤ (y 1).val then B.part (y 2).val else o y
/-- The rows quantised per 128 columns. -/
def outRc (B : Blk) : Vec Ideal S128x8192 .fp8e4m3 := fun y => quant (B.rowBits (y 0).val ((y 1).val / 128)) (B.dx (y 0).val (y 1).val)
/-- Their scales. -/
def outRs (B : Blk) : Vec Ideal S128x64 .f32 := fun y => scaleOf (B.rowBits (y 0).val (y 1).val)
/-- The columns quantised per block. -/
def outCc (B : Blk) : Vec Ideal S128x8192 .fp8e4m3 := fun y => quant (B.colBits (y 1).val) (B.dx (y 0).val (y 1).val)
/-- Their scales, in the block's own row of the group of eight and those after it. -/
def outCs (n : ℕ) (B : Blk) (o : Vec Ideal S1x8x8192 .f32) : Vec Ideal S1x8x8192 .f32 :=
  fun y => if n % 8 ≤ (y 1).val then scaleOf (B.colBits (y 2).val) else o y

set_option maxHeartbeats 2000000 in
/-- The body at a point: from the seven input blocks, the three buffers carried from the point before and any contents of the rest, it
    runs to the inputs as they were and the outputs at what `B` says. -/
theorem body_values (B : Blk) (x1 : Vec Ideal S128x8192 .bf16) (x2 : Vec Ideal S1x1x128 .f32) (x3 : Vec Ideal S1x8192 .f32) (x4 : Vec Ideal S128x8192 .bf16) (x5 : Vec Ideal S128x8192 .bf16) (x6 : Vec Ideal S128x8192 .bf16) (x7 : Vec Ideal S128x8192 .bf16) (o9 : Vec Ideal S1x8192 .f32) (o10 : Vec Ideal S1x8x8192 .f32) (o14 : Vec Ideal S1x8x8192 .f32)
    (h1 : ∀ p j, x1 (ix2 p j) = B.x p.val j.val) (h2 : ∀ l, x2 (ix3 0 0 l) = B.r l.val) (h3 : ∀ j, x3 (ix2 0 j) = B.γ j.val)
    (h4 : ∀ p j, x4 (ix2 p j) = B.dr p.val j.val) (h5 : ∀ p j, x5 (ix2 p j) = B.q p.val j.val)
    (h6 : ∀ p j, x6 (ix2 p j) = B.k p.val j.val) (h7 : ∀ p j, x7 (ix2 p j) = B.v p.val j.val) (K : PUnit → sProp 𝕄) :
    iprop(owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ (∃ d, owns (c : Thread nD τ) arg8 fullShare (d)) ∗ owns (c : Thread nD τ) arg9 fullShare (o9) ∗ owns (c : Thread nD τ) arg10 fullShare (o10) ∗ (∃ d, owns (c : Thread nD τ) arg11 fullShare (d)) ∗ (∃ d, owns (c : Thread nD τ) arg12 fullShare (d)) ∗ (∃ d, owns (c : Thread nD τ) arg13 fullShare (d)) ∗ owns (c : Thread nD τ) arg14 fullShare (o14) ∗ (∃ d, owns (c : Thread nD τ) arg15 fullShare (d)) ∗ (∃ d, owns (c : Thread nD τ) arg16 fullShare (d)) ∗ (∃ d, owns (c : Thread nD τ) arg17 fullShare (d)) ∗ (∃ d, owns (c : Thread nD τ) arg18 fullShare (d)) ∗ (∃ d, owns (c : Thread nD τ) arg19 fullShare (d))
      ∗ (iprop(owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (outDx B) ∗ owns (c : Thread nD τ) arg9 fullShare (outDg (i 0).val B o9) ∗ owns (c : Thread nD τ) arg10 fullShare (outDgp (i 0).val B o10) ∗ owns (c : Thread nD τ) arg11 fullShare (outRc B) ∗ owns (c : Thread nD τ) arg12 fullShare (outRs B) ∗ owns (c : Thread nD τ) arg13 fullShare (outCc B) ∗ owns (c : Thread nD τ) arg14 fullShare (outCs (i 0).val B o14) ∗ (∃ d, owns (c : Thread nD τ) arg15 fullShare (d)) ∗ (∃ d, owns (c : Thread nD τ) arg16 fullShare (d)) ∗ (∃ d, owns (c : Thread nD τ) arg17 fullShare (d)) ∗ (∃ d, owns (c : Thread nD τ) arg18 fullShare (d)) ∗ (∃ d, owns (c : Thread nD τ) arg19 fullShare (d))) -∗ K ⟨⟩))
      ⊢ wp frame (wpE (defs₀ (F := Ideal)) Variants.none (c : Thread nD τ) none) Set.univ (cc0_rmsnorm_bwd_dual_quant (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_rmsnorm_bwd_dual_quant_eq_skeleton]; unfold cc0_rmsnorm_bwd_dual_quant_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, Hk⟩
  sl_exec
  have e17 : ∀ (p l : Fin 128), arg17.view.read (Elt Ideal) (arg17.view.writes (Elt Ideal) arg17.view.junk (body_values.sl.H17_1 c arg2 f2)) (ix2 p l) = B.r p.val := by
    intro p l
    refine (store2_in (H := 128) (W := 128) _ _ _ _ _ (a := 0) (b := 0) rfl p l (by omega) (by omega)).trans ?_
    exact pay51_at B _ (fun l => (load3 _ _ _ (z := 0) (a := 0) (b := 0) rfl 0 0 l (by decide) (by decide) (by omega)).trans ((congrFun hf2 _).trans ((congrArg (fun z => x2 (ix3 0 0 z)) (Fin.ext (by first | rfl | omega | (dsimp only; omega)))).trans (h2 l)))) _ _
  have e18 : ∀ (s : Fin 8) (j : Fin 8192), arg18.view.read (Elt Ideal) (arg18.view.writes (Elt Ideal) arg18.view.junk body_values.sl.H18_1) (ix2 s j) = 0 := fun s j =>
    (store2_in (H := 8) (W := 8192) _ _ _ _ _ (a := 0) (b := 0) rfl s j (by omega) (by omega)).trans (pay52_at _ _)
  have e19 : ∀ (s : Fin 8) (j : Fin 8192), arg19.view.read (Elt Ideal) (arg19.view.writes (Elt Ideal) arg19.view.junk body_values.sl.H19_1) (ix2 s j) = 0 := fun s j =>
    (store2_in (H := 8) (W := 8192) _ _ _ _ _ (a := 0) (b := 0) rfl s j (by omega) (by omega)).trans (pay53_at _ _)
  iapply (enter1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B f1 f3 f4 f5 f6 f7 _ (fun p j => (congrFun hf1 (ix2 p j)).trans (h1 p j)) (fun p j => (congrFun hf4 (ix2 p j)).trans (h4 p j)) (fun p j => (congrFun hf5 (ix2 p j)).trans (h5 p j)) (fun p j => (congrFun hf6 (ix2 p j)).trans (h6 p j)) (fun p j => (congrFun hf7 (ix2 p j)).trans (h7 p j)) (fun j => (congrFun hf3 (ix2 0 j)).trans (h3 j)) e17 ⟨⟩) $$ [H1 H3 H4 H5 H6 H7 H17 H8 H11 H12 H15 H16 H18 H19]
  · unfold inv1
    isplitl [H1]; · iexact H1
    isplitl [H3]; · iexact H3
    isplitl [H4]; · iexact H4
    isplitl [H5]; · iexact H5
    isplitl [H6]; · iexact H6
    isplitl [H7]; · iexact H7
    isplitl [H17]; · iexact H17
    isplitl [H8]
    · iexists _; isplitl; · iexact H8
      ipureintro
      intro p j hp
      exact absurd hp (by omega)
    isplitl [H11]
    · iexists _; isplitl; · iexact H11
      ipureintro
      intro p j hp
      exact absurd hp (by omega)
    isplitl [H12]
    · iexists _; isplitl; · iexact H12
      ipureintro
      intro p u hp
      exact absurd hp (by omega)
    isplitl [H15]; · iexists _; iexact H15
    isplitl [H16]
    · iexists _; isplitl; · iexact H16
      ipureintro
      intro p j hp
      exact absurd hp (by omega)
    isplitl [H18]
    · iexists _; isplitl; · iexact H18
      ipureintro
      exact e18
    iexists _; isplitl; · iexact H19
    ipureintro
    exact e19
  unfold inv1
  iintro %u ⟨H1, H3, H4, H5, H6, H7, H17, ⟨%g8, H8, %k8⟩, ⟨%g11, H11, %k11⟩, ⟨%g12, H12, %k12⟩, ⟨%g15, H15⟩, ⟨%g16, H16, %k16⟩, ⟨%g18, H18, %k18⟩, ⟨%g19, H19, %k19⟩⟩
  sl_exec
  iapply (enter4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B f9 f10 f14 g16 g18 g19 _ _ (fun p j => k16 p j (by omega)) k18 k19 (pay65_at i) (first_at i) _ _ ⟨⟩) $$ [H16 H18 H19 H9 H10 H13 H14]
  · unfold inv4
    isplitl [H16]; · iexact H16
    isplitl [H18]; · iexact H18
    isplitl [H19]; · iexact H19
    isplitl [H9]
    · iexists _; isplitl; · iexact H9
      ipureintro
      intro j
      rw [if_neg (by omega)]
    isplitl [H10]
    · iexists _; isplitl; · iexact H10
      ipureintro
      intro s j
      rw [if_neg (by omega)]
    isplitl [H13]
    · iexists _; isplitl; · iexact H13
      ipureintro
      intro p j hj
      exact absurd hj (by omega)
    iexists _; isplitl; · iexact H14
    ipureintro
    intro s j
    rw [if_neg (by omega)]
  unfold inv4
  iintro %u' ⟨H16, H18, H19, ⟨%g9, H9, %k9⟩, ⟨%g10, H10, %k10⟩, ⟨%g13, H13, %k13⟩, ⟨%g14, H14, %k14⟩⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; funext y; rw [eq_ix2 y]; exact k8 _ _ (by omega)
  isplitl [H9]
  · iexists _; isplitr; swap; · iexact H9
    ipureintro; funext y; obtain ⟨z, j, rfl⟩ : ∃ z j, y = ix2 z j := ⟨_, _, eq_ix2 y⟩; obtain rfl : z = 0 := Subsingleton.elim _ _; rw [k9, if_pos (by omega)]; exact if_congr Iff.rfl rfl (congrArg (· + _) (congrFun hf9 _))
  isplitl [H10]
  · iexists _; isplitr; swap; · iexact H10
    ipureintro; funext y; obtain ⟨z, s, j, rfl⟩ : ∃ z s j, y = ix3 z s j := ⟨_, _, _, eq_ix3 y⟩; obtain rfl : z = 0 := Subsingleton.elim _ _; rw [k10]; exact if_congr (and_iff_right (by omega)) rfl (congrFun hf10 _)
  isplitl [H11]
  · iexists _; isplitr; swap; · iexact H11
    ipureintro; funext y; rw [eq_ix2 y]; exact k11 _ _ (by omega)
  isplitl [H12]
  · iexists _; isplitr; swap; · iexact H12
    ipureintro; funext y; rw [eq_ix2 y]; exact k12 _ _ (by omega)
  isplitl [H13]
  · iexists _; isplitr; swap; · iexact H13
    ipureintro; funext y; rw [eq_ix2 y]; exact k13 _ _ (by omega)
  isplitl [H14]
  · iexists _; isplitr; swap; · iexact H14
    ipureintro; funext y; obtain ⟨z, s, j, rfl⟩ : ∃ z s j, y = ix3 z s j := ⟨_, _, _, eq_ix3 y⟩; obtain rfl : z = 0 := Subsingleton.elim _ _; rw [k14]; exact if_congr (and_iff_right (by omega)) rfl (congrFun hf14 _)
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Hand

end
-- ==== Proof.Args.lean ====
/- The arguments as blocks of 128 rows: row `R` of the flattened arrays is row `R % 4096` of batch `R / 4096`. -/
module

public import proofs.«01_k».proof.Proof.Spec

@[expose] public section

noncomputable section

namespace Cert.Spec

open Idealize.ShloMosaic

/-- An entry of a three-dimensional argument at a row of the flattened array. -/
def rows (a : (⟨3, ![4, 4096, 8192]⟩ : Shape).Idx → EReal) (R j : ℕ) : EReal :=
  a (ix3 (Fin.ofNat 4 (R / 4096)) (Fin.ofNat 4096 R) (Fin.ofNat 8192 j))

theorem rows_eq (a : (⟨3, ![4, 4096, 8192]⟩ : Shape).Idx → EReal) (R j : ℕ) (x : Fin 4) (y : Fin 4096) (z : Fin 8192)
    (hx : x.val = R / 4096) (hy : y.val = R % 4096) (hz : z.val = j) : a (ix3 x y z) = rows a R j := by
  unfold rows
  rw [show x = Fin.ofNat 4 (R / 4096) from Fin.ext (by simp only [Fin.val_ofNat]; omega),
    show y = Fin.ofNat 4096 R from Fin.ext (by simp only [Fin.val_ofNat]; omega),
    show z = Fin.ofNat 8192 j from Fin.ext (by simp only [Fin.val_ofNat]; omega)]

/-- The seven arguments. -/
structure Args where
  x : (⟨3, ![4, 4096, 8192]⟩ : Shape).Idx → EReal
  rstd : (⟨2, ![4, 4096]⟩ : Shape).Idx → EReal
  gamma : (⟨1, ![8192]⟩ : Shape).Idx → EReal
  dr : (⟨3, ![4, 4096, 8192]⟩ : Shape).Idx → EReal
  q : (⟨3, ![4, 4096, 8192]⟩ : Shape).Idx → EReal
  k : (⟨3, ![4, 4096, 8192]⟩ : Shape).Idx → EReal
  v : (⟨3, ![4, 4096, 8192]⟩ : Shape).Idx → EReal

namespace Args

variable (A : Args)

/-- The reciprocal norm of a row. -/
def rs (R : ℕ) : EReal := A.rstd (ix2 (Fin.ofNat 4 (R / 4096)) (Fin.ofNat 4096 R))

/-- The weight of a column. -/
def γ (j : ℕ) : EReal := A.gamma (ix1 (Fin.ofNat 8192 j))

theorem rs_eq (R : ℕ) (x : Fin 4) (y : Fin 4096) (hx : x.val = R / 4096) (hy : y.val = R % 4096) : A.rstd (ix2 x y) = A.rs R := by
  unfold rs
  rw [show x = Fin.ofNat 4 (R / 4096) from Fin.ext (by simp only [Fin.val_ofNat]; omega),
    show y = Fin.ofNat 4096 R from Fin.ext (by simp only [Fin.val_ofNat]; omega)]

theorem γ_eq (z : Fin 8192) : A.gamma (ix1 z) = A.γ z.val := by
  unfold γ
  rw [show z = Fin.ofNat 8192 z.val from Fin.ext (by simp only [Fin.val_ofNat]; omega)]
  simp

/-- The block of 128 rows of point `t`. -/
def blk (t : ℕ) : Blk where
  x p j := rows A.x (128 * t + p) j
  q p j := rows A.q (128 * t + p) j
  k p j := rows A.k (128 * t + p) j
  v p j := rows A.v (128 * t + p) j
  dr p j := rows A.dr (128 * t + p) j
  r p := A.rs (128 * t + p)
  γ j := A.γ j

/-- The weight's gradient summed over the blocks up to a point. -/
def dgammaTo (t j : ℕ) : EReal := ∑ s ∈ Finset.range (t + 1), (A.blk s).part j

/-- The point whose values row `s` of a group of eight holds once point `t` has run. -/
def holder (t s : ℕ) : ℕ := 8 * (t / 8) + min (t % 8) s

/-! ## The results -/

/-- The gradient of a row of the flattened array. -/
def gdx (R j : ℕ) : EReal := (A.blk (R / 128)).dx (R % 128) j
/-- It quantised per 128 columns, -/
def rc (R j : ℕ) : EReal := quant ((A.blk (R / 128)).rowBits (R % 128) (j / 128)) (A.gdx R j)
/-- with the scales. -/
def rscale (R u : ℕ) : EReal := scaleOf ((A.blk (R / 128)).rowBits (R % 128) u)
/-- It quantised per column of a block, -/
def cc (R j : ℕ) : EReal := quant ((A.blk (R / 128)).colBits j) (A.gdx R j)
/-- with the scales of block `n` of batch `b`. -/
def cs (b n j : ℕ) : EReal := scaleOf ((A.blk (32 * b + n)).colBits j)
/-- The part of the weight's gradient of block `n` of batch `b`. -/
def dgp (b n j : ℕ) : EReal := (A.blk (32 * b + n)).part j
/-- The weight's gradient. -/
def dg (j : ℕ) : EReal := A.dgammaTo 127 j

end Args

end Cert.Spec

end
-- ==== Proof.Blocks.lean ====
/- The input blocks of a point, read off the arguments through the reshapes before the region. -/
module

public import proofs.«01_k».proof.Proof.Args
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

variable (m : (ℓ : Loc nD τ sig) → Buf (Elt Ideal) ℓ)

/-- The arguments on a core. -/
def argsOf (c : Dev nD) : Args where
  x := m ((c : Thread nD τ).loc main_arg0)
  rstd := m ((c : Thread nD τ).loc main_arg1)
  gamma := m ((c : Thread nD τ).loc main_arg2)
  dr := m ((c : Thread nD τ).loc main_arg3)
  q := m ((c : Thread nD τ).loc main_arg4)
  k := m ((c : Thread nD τ).loc main_arg5)
  v := m ((c : Thread nD τ).loc main_arg6)

theorem coords_val : ∀ t : Fin cfg0.N, (grid0.coords t 0).val = t.val := (by decide +kernel : ∀ t : Fin grid0.N, (grid0.coords t 0).val = t.val)

theorem index0 : ∀ t : Fin cfg0.N, win0_0.index t = ![t.val, 0] := (by decide +kernel : ∀ t : Fin grid0.N, win0_0.index t = ![t.val, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![0, 0] := (by decide +kernel : ∀ t : Fin grid0.N, win0_2.index t = ![0, 0])

/-- The contents of a buffer at the region's entry, after the reshapes. -/
theorem V_eq (c : Dev nD) (b : Ref sig .tc) : V m c b = StableHlo.after hostOps0 (fun b => m (c, b)) (Proc.devRef .tc b) := by
  simp only [V, V0, List.flatten_cons, List.flatten_nil, List.append_nil]

theorem V_v0 (c : Dev nD) (R : Fin 16384) (j : Fin 8192) : V m c main_v0 (ix2 R j) = rows (argsOf m c).x R.val j.val := by
  rw [V_eq]
  entry_read
  pointwise
  exact rows_eq (argsOf m c).x _ _ _ _ _ rfl rfl rfl

theorem V_v1 (c : Dev nD) (R : Fin 16384) (j : Fin 8192) : V m c main_v1 (ix2 R j) = rows (argsOf m c).dr R.val j.val := by
  rw [V_eq]
  entry_read
  pointwise
  exact rows_eq (argsOf m c).dr _ _ _ _ _ rfl rfl rfl

theorem V_v2 (c : Dev nD) (R : Fin 16384) (j : Fin 8192) : V m c main_v2 (ix2 R j) = rows (argsOf m c).q R.val j.val := by
  rw [V_eq]
  entry_read
  pointwise
  exact rows_eq (argsOf m c).q _ _ _ _ _ rfl rfl rfl

theorem V_v3 (c : Dev nD) (R : Fin 16384) (j : Fin 8192) : V m c main_v3 (ix2 R j) = rows (argsOf m c).k R.val j.val := by
  rw [V_eq]
  entry_read
  pointwise
  exact rows_eq (argsOf m c).k _ _ _ _ _ rfl rfl rfl

theorem V_v4 (c : Dev nD) (R : Fin 16384) (j : Fin 8192) : V m c main_v4 (ix2 R j) = rows (argsOf m c).v R.val j.val := by
  rw [V_eq]
  entry_read
  pointwise
  exact rows_eq (argsOf m c).v _ _ _ _ _ rfl rfl rfl

theorem V_v5 (c : Dev nD) (t l : Fin 128) : V m c main_v5 (ix3 t 0 l) = (argsOf m c).rs (128 * t.val + l.val) := by
  rw [V_eq]
  entry_read
  pointwise
  refine (argsOf m c).rs_eq _ _ _ ?_ ?_
  · dsimp only; omega
  · dsimp only; omega

theorem V_v6 (c : Dev nD) (j : Fin 8192) : V m c main_v6 (ix2 0 j) = (argsOf m c).γ j.val := by
  rw [V_eq]
  entry_read
  pointwise
  exact (argsOf m c).γ_eq _

theorem iblk0_at (c : Dev nD) (t : Fin cfg0.N) (p : Fin 128) (j : Fin 8192) : iblk m c 0 t (ix2 p j) = ((argsOf m c).blk t.val).x p.val j.val := by
  have ht : t.val < 128 := t.isLt
  refine Eq.trans ?_ (V_v0 m c ⟨128 * t.val + p.val, by omega⟩ j)
  blk_simp [iblk]
  refine congrArg (V m c main_v0) ?_
  blk_ext [index0 t]

theorem index3 : ∀ t : Fin cfg0.N, win0_3.index t = ![t.val, 0] := (by decide +kernel : ∀ t : Fin grid0.N, win0_3.index t = ![t.val, 0])

theorem iblk3_at (c : Dev nD) (t : Fin cfg0.N) (p : Fin 128) (j : Fin 8192) : iblk m c 3 t (ix2 p j) = ((argsOf m c).blk t.val).dr p.val j.val := by
  have ht : t.val < 128 := t.isLt
  refine Eq.trans ?_ (V_v1 m c ⟨128 * t.val + p.val, by omega⟩ j)
  blk_simp [iblk]
  refine congrArg (V m c main_v1) ?_
  blk_ext [index3 t]

theorem index4 : ∀ t : Fin cfg0.N, win0_4.index t = ![t.val, 0] := (by decide +kernel : ∀ t : Fin grid0.N, win0_4.index t = ![t.val, 0])

theorem iblk4_at (c : Dev nD) (t : Fin cfg0.N) (p : Fin 128) (j : Fin 8192) : iblk m c 4 t (ix2 p j) = ((argsOf m c).blk t.val).q p.val j.val := by
  have ht : t.val < 128 := t.isLt
  refine Eq.trans ?_ (V_v2 m c ⟨128 * t.val + p.val, by omega⟩ j)
  blk_simp [iblk]
  refine congrArg (V m c main_v2) ?_
  blk_ext [index4 t]

theorem index5 : ∀ t : Fin cfg0.N, win0_5.index t = ![t.val, 0] := (by decide +kernel : ∀ t : Fin grid0.N, win0_5.index t = ![t.val, 0])

theorem iblk5_at (c : Dev nD) (t : Fin cfg0.N) (p : Fin 128) (j : Fin 8192) : iblk m c 5 t (ix2 p j) = ((argsOf m c).blk t.val).k p.val j.val := by
  have ht : t.val < 128 := t.isLt
  refine Eq.trans ?_ (V_v3 m c ⟨128 * t.val + p.val, by omega⟩ j)
  blk_simp [iblk]
  refine congrArg (V m c main_v3) ?_
  blk_ext [index5 t]

theorem index6 : ∀ t : Fin cfg0.N, win0_6.index t = ![t.val, 0] := (by decide +kernel : ∀ t : Fin grid0.N, win0_6.index t = ![t.val, 0])

theorem iblk6_at (c : Dev nD) (t : Fin cfg0.N) (p : Fin 128) (j : Fin 8192) : iblk m c 6 t (ix2 p j) = ((argsOf m c).blk t.val).v p.val j.val := by
  have ht : t.val < 128 := t.isLt
  refine Eq.trans ?_ (V_v4 m c ⟨128 * t.val + p.val, by omega⟩ j)
  blk_simp [iblk]
  refine congrArg (V m c main_v4) ?_
  blk_ext [index6 t]

theorem iblk1_at (c : Dev nD) (t : Fin cfg0.N) (l : Fin 128) : iblk m c 1 t (ix3 0 0 l) = ((argsOf m c).blk t.val).r l.val := by
  refine Eq.trans ?_ (V_v5 m c ⟨t.val, t.isLt⟩ l)
  blk_simp [iblk]
  refine congrArg (V m c main_v5) ?_
  blk_ext [index1 t]

theorem iblk2_at (c : Dev nD) (t : Fin cfg0.N) (j : Fin 8192) : iblk m c 2 t (ix2 0 j) = ((argsOf m c).blk t.val).γ j.val := by
  refine Eq.trans ?_ (V_v6 m c j)
  blk_simp [iblk]
  refine congrArg (V m c main_v6) ?_
  blk_ext [index2 t]

end Cert.KernelIdeal.Hand

end
-- ==== Proof.Run.lean ====
/- The run of the kernel over the extended reals with the values it computes: what each output's buffer holds after every point,
   the body's obligation at a point, and the launch. -/
module

public import proofs.«01_k».proof.Proof.Body
public import proofs.«01_k».proof.Proof.Blocks

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The buffers of a point -/

abbrev ms0 (t : Fin cfg0.N) : Memref sig .tc .vmem S128x8192 .bf16 := win0_0.stage (cfg0.slots t 0)
abbrev ms1 (t : Fin cfg0.N) : Memref sig .tc .vmem S1x1x128 .f32 := win0_1.stage (cfg0.slots t 1)
abbrev ms2 (t : Fin cfg0.N) : Memref sig .tc .vmem S1x8192 .f32 := win0_2.stage (cfg0.slots t 2)
abbrev ms3 (t : Fin cfg0.N) : Memref sig .tc .vmem S128x8192 .bf16 := win0_3.stage (cfg0.slots t 3)
abbrev ms4 (t : Fin cfg0.N) : Memref sig .tc .vmem S128x8192 .bf16 := win0_4.stage (cfg0.slots t 4)
abbrev ms5 (t : Fin cfg0.N) : Memref sig .tc .vmem S128x8192 .bf16 := win0_5.stage (cfg0.slots t 5)
abbrev ms6 (t : Fin cfg0.N) : Memref sig .tc .vmem S128x8192 .bf16 := win0_6.stage (cfg0.slots t 6)
abbrev ms7 (t : Fin cfg0.N) : Memref sig .tc .vmem S128x8192 .bf16 := win0_7.stage (cfg0.slots t 7)
abbrev ms8 (t : Fin cfg0.N) : Memref sig .tc .vmem S1x8192 .f32 := win0_8.stage (cfg0.slots t 8)
abbrev ms9 (t : Fin cfg0.N) : Memref sig .tc .vmem S1x8x8192 .f32 := win0_9.stage (cfg0.slots t 9)
abbrev ms10 (t : Fin cfg0.N) : Memref sig .tc .vmem S128x8192 .fp8e4m3 := win0_10.stage (cfg0.slots t 10)
abbrev ms11 (t : Fin cfg0.N) : Memref sig .tc .vmem S128x64 .f32 := win0_11.stage (cfg0.slots t 11)
abbrev ms12 (t : Fin cfg0.N) : Memref sig .tc .vmem S128x8192 .fp8e4m3 := win0_12.stage (cfg0.slots t 12)
abbrev ms13 (t : Fin cfg0.N) : Memref sig .tc .vmem S1x8x8192 .f32 := win0_13.stage (cfg0.slots t 13)
abbrev sc0 : Memref sig .tc .vmem S32x8192 .f32 := Memref.whole cc0_scratch0
abbrev sc1 : Memref sig .tc .vmem S128x8192 .f32 := Memref.whole cc0_scratch1
abbrev sc2 : Memref sig .tc .vmem S128x128 .f32 := Memref.whole cc0_scratch2
abbrev sc3 : Memref sig .tc .vmem S8x8192 .f32 := Memref.whole cc0_scratch3
abbrev sc4 : Memref sig .tc .vmem S8x8192 .f32 := Memref.whole cc0_scratch4

/-- The scratch at some contents, and the generator register: what the body is handed beside the windows. -/
theorem scratch_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The proof data -/

/-- The weight's gradient after point `t`. -/
def valDg (A : Args) (t : ℕ) : Vec Ideal S1x8192 .f32 := fun y => A.dgammaTo t (y 1).val
/-- The parts of the weight's gradient in the buffer after point `t`. -/
def valDgp (A : Args) (t : ℕ) : Vec Ideal S1x8x8192 .f32 := fun y => (A.blk (Args.holder t (y 1).val)).part (y 2).val
/-- The columns' scales in the buffer after point `t`. -/
def valCs (A : Args) (t : ℕ) : Vec Ideal S1x8x8192 .f32 := fun y => scaleOf ((A.blk (Args.holder t (y 1).val)).colBits (y 2).val)

theorem outDg_zero (A : Args) (t : ℕ) (o) (ht : t = 0) : outDg t (A.blk t) o = valDg A t := by
  subst ht; funext y; unfold outDg valDg Args.dgammaTo
  rw [if_pos rfl, Finset.sum_range_one]
theorem outDg_succ (A : Args) (t : ℕ) (ht : t ≠ 0) : outDg t (A.blk t) (valDg A (t - 1)) = valDg A t := by
  funext y; unfold outDg valDg Args.dgammaTo
  rw [if_neg ht, show t - 1 + 1 = t by omega, Finset.sum_range_succ]
theorem outDgp_first (A : Args) (t : ℕ) (o) (ht : t % 8 = 0) : outDgp t (A.blk t) o = valDgp A t := by
  funext y; unfold outDgp valDgp Args.holder
  rw [if_pos (by omega), show 8 * (t / 8) + min (t % 8) (y 1).val = t by omega]
theorem outDgp_next (A : Args) (t : ℕ) (ht : t % 8 ≠ 0) : outDgp t (A.blk t) (valDgp A (t - 1)) = valDgp A t := by
  funext y; unfold outDgp valDgp Args.holder
  by_cases h : t % 8 ≤ (y 1).val
  · rw [if_pos h, show 8 * (t / 8) + min (t % 8) (y 1).val = t by omega]
  · rw [if_neg h, show 8 * ((t - 1) / 8) + min ((t - 1) % 8) (y 1).val = 8 * (t / 8) + min (t % 8) (y 1).val by omega]
theorem outCs_first (A : Args) (t : ℕ) (o) (ht : t % 8 = 0) : outCs t (A.blk t) o = valCs A t := by
  funext y; unfold outCs valCs Args.holder
  rw [if_pos (by omega), show 8 * (t / 8) + min (t % 8) (y 1).val = t by omega]
theorem outCs_next (A : Args) (t : ℕ) (ht : t % 8 ≠ 0) : outCs t (A.blk t) (valCs A (t - 1)) = valCs A t := by
  funext y; unfold outCs valCs Args.holder
  by_cases h : t % 8 ≤ (y 1).val
  · rw [if_pos h, show 8 * (t / 8) + min (t % 8) (y 1).val = t by omega]
  · rw [if_neg h, show 8 * ((t - 1) / 8) + min ((t - 1) % 8) (y 1).val = 8 * (t / 8) + min (t % 8) (y 1).val by omega]

/-- The arrays as the region finds them; after a point each input's buffer at its block, each output's at the value it has then. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outDx ((argsOf m c).blk t.val)
    | ⟨8, _⟩ => valDg (argsOf m c) t.val
    | ⟨9, _⟩ => valDgp (argsOf m c) t.val
    | ⟨10, _⟩ => outRc ((argsOf m c).blk t.val)
    | ⟨11, _⟩ => outRs ((argsOf m c).blk t.val)
    | ⟨12, _⟩ => outCc ((argsOf m c).blk t.val)
    | ⟨13, _⟩ => valCs (argsOf m c) t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem after_7 (c : Dev nD) (t : Fin cfg0.N) : (dats m 0 c).after 7 t = outDx ((argsOf m c).blk t.val) := by dsimp only [dats]
theorem after_8 (c : Dev nD) (t : Fin cfg0.N) : (dats m 0 c).after 8 t = valDg (argsOf m c) t.val := by dsimp only [dats]
theorem after_9 (c : Dev nD) (t : Fin cfg0.N) : (dats m 0 c).after 9 t = valDgp (argsOf m c) t.val := by dsimp only [dats]
theorem after_10 (c : Dev nD) (t : Fin cfg0.N) : (dats m 0 c).after 10 t = outRc ((argsOf m c).blk t.val) := by dsimp only [dats]
theorem after_11 (c : Dev nD) (t : Fin cfg0.N) : (dats m 0 c).after 11 t = outRs ((argsOf m c).blk t.val) := by dsimp only [dats]
theorem after_12 (c : Dev nD) (t : Fin cfg0.N) : (dats m 0 c).after 12 t = outCc ((argsOf m c).blk t.val) := by dsimp only [dats]
theorem after_13 (c : Dev nD) (t : Fin cfg0.N) : (dats m 0 c).after 13 t = valCs (argsOf m c) t.val := by dsimp only [dats]

/-- The carried outputs at a point that goes on from the one before: what that one left. -/
theorem before_8 (c : Dev nD) (t : Fin cfg0.N) (ht : t.val % 128 ≠ 0) (d) : (dats m 0 c).before 8 t d = valDg (argsOf m c) (t.val - 1) := by
  have hN : t.val < 128 := t.isLt
  rw [(dats m 0 c).before_of_pos 8 t (by omega) (cfg0.win 8 |>.fetch_out rfl t) d,
    if_neg (by rw [flush0_8]; dsimp only; omega)]
  unfold Dat.left
  dsimp only
  unfold Dat.kept
  exact (Pipeline.fill_of_clip_none (cfg := cfg0) 8 _ (fun _ => rfl) d ((dats m 0 c).after 8 _) _).trans (((cfg0.win 8).fill_cut _ _).trans (after_8 m c _))
theorem before_9 (c : Dev nD) (t : Fin cfg0.N) (ht : t.val % 8 ≠ 0) (d) : (dats m 0 c).before 9 t d = valDgp (argsOf m c) (t.val - 1) := by
  have hN : t.val < 128 := t.isLt
  rw [(dats m 0 c).before_of_pos 9 t (by omega) (cfg0.win 9 |>.fetch_out rfl t) d,
    if_neg (by rw [flush0_9]; dsimp only; omega)]
  unfold Dat.left
  dsimp only
  unfold Dat.kept
  exact (Pipeline.fill_of_clip_none (cfg := cfg0) 9 _ (fun _ => rfl) d ((dats m 0 c).after 9 _) _).trans (((cfg0.win 9).fill_cut _ _).trans (after_9 m c _))
theorem before_13 (c : Dev nD) (t : Fin cfg0.N) (ht : t.val % 8 ≠ 0) (d) : (dats m 0 c).before 13 t d = valCs (argsOf m c) (t.val - 1) := by
  have hN : t.val < 128 := t.isLt
  rw [(dats m 0 c).before_of_pos 13 t (by omega) (cfg0.win 13 |>.fetch_out rfl t) d,
    if_neg (by rw [flush0_13]; dsimp only; omega)]
  unfold Dat.left
  dsimp only
  unfold Dat.kept
  exact (Pipeline.fill_of_clip_none (cfg := cfg0) 13 _ (fun _ => rfl) d ((dats m 0 c).after 13 _) _).trans (((cfg0.win 13).fill_cut _ _).trans (after_13 m c _))

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, scratch_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have e8 : outDg (grid0.coords t 0).val ((argsOf m c).blk t.val) ((dats m 0 c).before 8 t d8) = valDg (argsOf m c) t.val := by
    rw [coords_val]
    by_cases h : t.val = 0
    · exact outDg_zero _ _ _ h
    · rw [before_8 m c t (by have : t.val < 128 := t.isLt; omega)]; exact outDg_succ _ _ h
  have e9 : outDgp (grid0.coords t 0).val ((argsOf m c).blk t.val) ((dats m 0 c).before 9 t d9) = valDgp (argsOf m c) t.val := by
    rw [coords_val]
    by_cases h : t.val % 8 = 0
    · exact outDgp_first _ _ _ h
    · rw [before_9 m c t h]; exact outDgp_next _ _ h
  have e13 : outCs (grid0.coords t 0).val ((argsOf m c).blk t.val) ((dats m 0 c).before 13 t d13) = valCs (argsOf m c) t.val := by
    rw [coords_val]
    by_cases h : t.val % 8 = 0
    · exact outCs_first _ _ _ h
    · rw [before_13 m c t h]; exact outCs_next _ _ h
  rw [← e8, ← e9, ← e13]
  iapply (body_values c (grid0.coords t) _ _ _ _ _ _ _ _ _ _ _ _ _ _ _ _ _ _ _ _ _ _ _ _ _ _ _ _ _ _ _ _ _ _ _ _ _ _ ((argsOf m c).blk t.val)
    (iblk m c 0 t) (iblk m c 1 t) (iblk m c 2 t) (iblk m c 3 t) (iblk m c 4 t) (iblk m c 5 t) (iblk m c 6 t)
    ((dats m 0 c).before 8 t d8) ((dats m 0 c).before 9 t d9) ((dats m 0 c).before 13 t d13)
    (iblk0_at m c t) (iblk1_at m c t) (iblk2_at m c t) (iblk3_at m c t) (iblk4_at m c t) (iblk5_at m c t) (iblk6_at m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body at the point. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    BodyObligation (dats m 0 c) (defs₀ (F := Ideal)) Variants.none () Set.univ (fun _ => false) := fun t => by
  rw [bigSep_W0, bigSep_W0, defs₀_row]
  exact triple_restated (sound_body m c t) rfl .rfl fun _ => .rfl

/-! ## The launch -/

-- the launch theorem's implicit arguments are found by unifying its conclusion with this one
set_option backward.isDefEq.respectTransparency.types false in
set_option maxHeartbeats 800000 in
/-- The launch, with every semaphore counter at zero at the end. -/
theorem run_values : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl) (hQ' := fun _ h => h)

end Cert.KernelIdeal.Hand

end
-- ==== Proof.Final.lean ====
/- The arrays the region leaves, from the blocks of its points, and the results after the reshapes that follow it. -/
module

public import proofs.«01_k».proof.Proof.Run
public import Idealize.ShloMosaic.Lib.Pointwise

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg)

theorem index7 : ∀ t : Fin cfg0.N, win0_7.index t = ![t.val, 0] := (by decide +kernel : ∀ t : Fin grid0.N, win0_7.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index8 : ∀ t : Fin cfg0.N, win0_8.index t = ![0, 0] := (by decide +kernel : ∀ t : Fin grid0.N, win0_8.index t = ![0, 0])
theorem index9 : ∀ t : Fin cfg0.N, win0_9.index t = ![t.val / 32, t.val % 32 / 8, 0] := (by decide +kernel : ∀ t : Fin grid0.N, win0_9.index t = ![t.val / 32, t.val % 32 / 8, 0])
theorem index13 : ∀ t : Fin cfg0.N, win0_13.index t = ![t.val / 32, t.val % 32 / 8, 0] := (by decide +kernel : ∀ t : Fin grid0.N, win0_13.index t = ![t.val / 32, t.val % 32 / 8, 0])

/-- Eight points hold one block of each of the two outputs that gather rows. -/
theorem holder_eq (a b : ℕ) (h : a % 8 = 7) (h' : b < 8) :
    32 * (a / 32) + (a % 32 / 8 * 8 + b) = 8 * (a / 8) + min (a % 8) b := by omega

theorem final_7 (c : Dev nD) : (dats m 0 c).arrAt 7 cfg0.N = fun i => (argsOf m c).gdx (i 0).val (i 1).val := by
  refine (dats m 0 c).arrAt_eq_of_covers 7 _ (by decide +kernel) fun t hf y => ?_
  blk_simp
  rw [after_7]
  idx_bounds y
  have e0 : win0_7.index t 0 = t.val := congrFun (index7 t) 0
  have e1 : win0_7.index t 1 = 0 := congrFun (index7 t) 1
  have h1 : (win0_7.index t 0 * 128 + (y 0).val) / 128 = t.val := by rw [e0]; omega
  have h2 : (win0_7.index t 0 * 128 + (y 0).val) % 128 = (y 0).val := by rw [e0]; omega
  have h3 : win0_7.index t 1 * 8192 + (y 1).val = (y 1).val := by rw [e1]; omega
  simp only [outDx, Args.gdx, h1, h2, h3]

theorem final_10 (c : Dev nD) : (dats m 0 c).arrAt 10 cfg0.N = fun i => (argsOf m c).rc (i 0).val (i 1).val := by
  refine (dats m 0 c).arrAt_eq_of_covers 10 _ (by decide +kernel) fun t hf y => ?_
  blk_simp
  rw [after_10]
  idx_bounds y
  have e0 : win0_10.index t 0 = t.val := congrFun (index10 t) 0
  have e1 : win0_10.index t 1 = 0 := congrFun (index10 t) 1
  have h1 : (win0_10.index t 0 * 128 + (y 0).val) / 128 = t.val := by rw [e0]; omega
  have h2 : (win0_10.index t 0 * 128 + (y 0).val) % 128 = (y 0).val := by rw [e0]; omega
  have h3 : win0_10.index t 1 * 8192 + (y 1).val = (y 1).val := by rw [e1]; omega
  simp only [outRc, Args.rc, Args.gdx, h1, h2, h3]

theorem final_11 (c : Dev nD) : (dats m 0 c).arrAt 11 cfg0.N = fun i => (argsOf m c).rscale (i 0).val (i 1).val := by
  refine (dats m 0 c).arrAt_eq_of_covers 11 _ (by decide +kernel) fun t hf y => ?_
  blk_simp
  rw [after_11]
  idx_bounds y
  have e0 : win0_11.index t 0 = t.val := congrFun (index11 t) 0
  have e1 : win0_11.index t 1 = 0 := congrFun (index11 t) 1
  have h1 : (win0_11.index t 0 * 128 + (y 0).val) / 128 = t.val := by rw [e0]; omega
  have h2 : (win0_11.index t 0 * 128 + (y 0).val) % 128 = (y 0).val := by rw [e0]; omega
  have h3 : win0_11.index t 1 * 64 + (y 1).val = (y 1).val := by rw [e1]; omega
  simp only [outRs, Args.rscale, Args.gdx, h1, h2, h3]

theorem final_12 (c : Dev nD) : (dats m 0 c).arrAt 12 cfg0.N = fun i => (argsOf m c).cc (i 0).val (i 1).val := by
  refine (dats m 0 c).arrAt_eq_of_covers 12 _ (by decide +kernel) fun t hf y => ?_
  blk_simp
  rw [after_12]
  idx_bounds y
  have e0 : win0_12.index t 0 = t.val := congrFun (index12 t) 0
  have e1 : win0_12.index t 1 = 0 := congrFun (index12 t) 1
  have h1 : (win0_12.index t 0 * 128 + (y 0).val) / 128 = t.val := by rw [e0]; omega
  have h2 : (win0_12.index t 0 * 128 + (y 0).val) % 128 = (y 0).val := by rw [e0]; omega
  have h3 : win0_12.index t 1 * 8192 + (y 1).val = (y 1).val := by rw [e1]; omega
  simp only [outCc, Args.cc, Args.gdx, h1, h2, h3]

theorem final_8 (c : Dev nD) : (dats m 0 c).arrAt 8 cfg0.N = fun i => (argsOf m c).dg (i 1).val := by
  refine (dats m 0 c).arrAt_eq_of_covers 8 _ (by decide +kernel) fun t hf y => ?_
  blk_simp
  rw [after_8]
  idx_bounds y
  have hf' := (flush0_8 t).1 hf
  have e1 : win0_8.index t 1 = 0 := congrFun (index8 t) 1
  have h3 : win0_8.index t 1 * 8192 + (y 1).val = (y 1).val := by rw [e1]; omega
  have hN : cfg0.N = 128 := by decide +kernel
  have ht : t.val = 127 := by have h : t.val < 128 := hN ▸ t.isLt; omega
  simp only [valDg, Args.dg, h3, ht]

theorem final_9 (c : Dev nD) : (dats m 0 c).arrAt 9 cfg0.N = fun i => (argsOf m c).dgp (i 0).val (i 1).val (i 2).val := by
  refine (dats m 0 c).arrAt_eq_of_covers 9 _ (by decide +kernel) fun t hf y => ?_
  blk_simp
  rw [after_9]
  idx_bounds y
  have hf' := (flush0_9 t).1 hf
  have e0 : win0_9.index t 0 = t.val / 32 := congrFun (index9 t) 0
  have e1 : win0_9.index t 1 = t.val % 32 / 8 := congrFun (index9 t) 1
  have e2 : win0_9.index t 2 = 0 := congrFun (index9 t) 2
  have e3 := holder_eq t.val (y 1).val hf' hb1
  have e4 : ∀ a : ℕ, 0 * 8192 + a = a := fun a => by rw [Nat.zero_mul, Nat.zero_add]
  simp only [valDgp, Args.dgp, Args.holder, e0, e1, e2, e3, e4]

theorem final_13 (c : Dev nD) : (dats m 0 c).arrAt 13 cfg0.N = fun i => (argsOf m c).cs (i 0).val (i 1).val (i 2).val := by
  refine (dats m 0 c).arrAt_eq_of_covers 13 _ (by decide +kernel) fun t hf y => ?_
  blk_simp
  rw [after_13]
  idx_bounds y
  have hf' := (flush0_13 t).1 hf
  have e0 : win0_13.index t 0 = t.val / 32 := congrFun (index13 t) 0
  have e1 : win0_13.index t 1 = t.val % 32 / 8 := congrFun (index13 t) 1
  have e2 : win0_13.index t 2 = 0 := congrFun (index13 t) 2
  have e3 := holder_eq t.val (y 1).val hf' hb1
  have e4 : ∀ a : ℕ, 0 * 8192 + a = a := fun a => by rw [Nat.zero_mul, Nat.zero_add]
  simp only [valCs, Args.cs, Args.holder, e0, e1, e2, e3, e4]

/-! ## After the reshapes -/

theorem arrs (c : Dev nD) (w : Fin 14) :
    Pipeline.withArrays (cfgs 0).spec c (V0 m c) (fun w => (dats m 0 c).arrAt w (cfgs 0).N)
      (Proc.devRef .tc (Pipeline.arrRef (cfgs 0).spec w)) = (dats m 0 c).arrAt w cfg0.N :=
  Pipeline.withArrays_arr _ (by decide) c _ _ w

theorem tail_v8 (c : Dev nD) : Pipeline.afterTail₀ cfgs (dats m) 0 (V0 m) [hostOps1] c main_v8 =
    fun i => (argsOf m c).gdx ((i 0).val * 4096 + (i 1).val) (i 2).val := by
  unfold Pipeline.afterTail₀
  simp only [List.flatten_cons, List.flatten_nil, List.append_nil]
  entry_read
  rw [show Pipeline.withArrays (cfgs 0).spec c (V0 m c) (fun w => (dats m 0 c).arrAt w (cfgs 0).N)
      (Proc.tc.devRef main_v7_0) = _ from arrs m c 7, final_7]
  funext i
  rw [eq_ix3 i]
  pointwise

theorem tail_v9 (c : Dev nD) : Pipeline.afterTail₀ cfgs (dats m) 0 (V0 m) [hostOps1] c main_v9 =
    fun i => (argsOf m c).dg (i 0).val := by
  unfold Pipeline.afterTail₀
  simp only [List.flatten_cons, List.flatten_nil, List.append_nil]
  entry_read
  rw [show Pipeline.withArrays (cfgs 0).spec c (V0 m c) (fun w => (dats m 0 c).arrAt w (cfgs 0).N)
      (Proc.tc.devRef main_v7_1) = _ from arrs m c 8, final_8]
  funext i
  rw [eq_ix1 i]
  pointwise

theorem tail_v10 (c : Dev nD) : Pipeline.afterTail₀ cfgs (dats m) 0 (V0 m) [hostOps1] c main_v10 =
    fun i => (argsOf m c).rc ((i 0).val * 4096 + (i 1).val) (i 2).val := by
  unfold Pipeline.afterTail₀
  simp only [List.flatten_cons, List.flatten_nil, List.append_nil]
  entry_read
  rw [show Pipeline.withArrays (cfgs 0).spec c (V0 m c) (fun w => (dats m 0 c).arrAt w (cfgs 0).N)
      (Proc.tc.devRef main_v7_3) = _ from arrs m c 10, final_10]
  funext i
  rw [eq_ix3 i]
  pointwise

theorem tail_v11 (c : Dev nD) : Pipeline.afterTail₀ cfgs (dats m) 0 (V0 m) [hostOps1] c main_v11 =
    fun i => (argsOf m c).rscale ((i 0).val * 4096 + (i 1).val) (i 2).val := by
  unfold Pipeline.afterTail₀
  simp only [List.flatten_cons, List.flatten_nil, List.append_nil]
  entry_read
  rw [show Pipeline.withArrays (cfgs 0).spec c (V0 m c) (fun w => (dats m 0 c).arrAt w (cfgs 0).N)
      (Proc.tc.devRef main_v7_4) = _ from arrs m c 11, final_11]
  funext i
  rw [eq_ix3 i]
  pointwise

theorem tail_v12 (c : Dev nD) : Pipeline.afterTail₀ cfgs (dats m) 0 (V0 m) [hostOps1] c main_v12 =
    fun i => (argsOf m c).cc ((i 0).val * 4096 + (i 1).val) (i 2).val := by
  unfold Pipeline.afterTail₀
  simp only [List.flatten_cons, List.flatten_nil, List.append_nil]
  entry_read
  rw [show Pipeline.withArrays (cfgs 0).spec c (V0 m c) (fun w => (dats m 0 c).arrAt w (cfgs 0).N)
      (Proc.tc.devRef main_v7_5) = _ from arrs m c 12, final_12]
  funext i
  rw [eq_ix3 i]
  pointwise

/-! ## The run -/

/-- The kernel's run with its seven results, its arguments and its semaphores. -/
theorem run_results : θ_run defs (onTc (τ := τ) (main (F := Ideal))) ⟨m, fun _ => 0, ρ⟩ (fun r => (∀ c : Dev nD,
      (r.2.mem ((c.tc : Thread nD τ).loc main_v8) = fun i => (argsOf m c).gdx ((i 0).val * 4096 + (i 1).val) (i 2).val)
      ∧ (r.2.mem ((c.tc : Thread nD τ).loc main_v9) = fun i => (argsOf m c).dg (i 0).val)
      ∧ (r.2.mem ((c.tc : Thread nD τ).loc main_v7_2) = fun i => (argsOf m c).dgp (i 0).val (i 1).val (i 2).val)
      ∧ (r.2.mem ((c.tc : Thread nD τ).loc main_v10) = fun i => (argsOf m c).rc ((i 0).val * 4096 + (i 1).val) (i 2).val)
      ∧ (r.2.mem ((c.tc : Thread nD τ).loc main_v11) = fun i => (argsOf m c).rscale ((i 0).val * 4096 + (i 1).val) (i 2).val)
      ∧ (r.2.mem ((c.tc : Thread nD τ).loc main_v12) = fun i => (argsOf m c).cc ((i 0).val * 4096 + (i 1).val) (i 2).val)
      ∧ (r.2.mem ((c.tc : Thread nD τ).loc main_v7_6) = fun i => (argsOf m c).cs (i 0).val (i 1).val (i 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    ((h.1 c).2 main_v8 (Pipeline.mem_restRefs_of main_v8 (by decide) (by decide))).trans (tail_v8 m c),
    ((h.1 c).2 main_v9 (Pipeline.mem_restRefs_of main_v9 (by decide) (by decide))).trans (tail_v9 m c),
    ((h.1 c).1 9).trans (final_9 m c),
    ((h.1 c).2 main_v10 (Pipeline.mem_restRefs_of main_v10 (by decide) (by decide))).trans (tail_v10 m c),
    ((h.1 c).2 main_v11 (Pipeline.mem_restRefs_of main_v11 (by decide) (by decide))).trans (tail_v11 m c),
    ((h.1 c).2 main_v12 (Pipeline.mem_restRefs_of main_v12 (by decide) (by decide))).trans (tail_v12 m c),
    ((h.1 c).1 13).trans (final_13 m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c)⟩, h.2⟩)
    (run_values m ρ)

/-- The frame: of the run, the arguments and the semaphores. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2.2.2.2.2.2.2, h.2⟩) (run_results m ρ)

end Cert.KernelIdeal.Hand

end
-- ==== Proof.Frames.lean ====
/- The frames of the three programs, in the words of the claim. -/
module

public import proofs.«01_k».proof.Defs
public import proofs.«01_k».proof.Proof.KernelFrame
public import proofs.«01_k».proof.Proof.Final
public import proofs.«01_k».proof.Proof.Gen.ReferenceIdeal.Run

@[expose] public section

noncomputable section

open Idealize.ShloMosaic

namespace Cert.Proof

/-- The kernel's frame, over machine floats. -/
theorem frame_kernel : Cert.quiescent_Kernel := fun m ρ _ => Cert.Kernel.Hand.frame m ρ

/-- The kernel's frame over the extended reals. -/
theorem frame_ideal : Cert.quiescent_KernelIdeal := fun m ρ _ => Cert.KernelIdeal.Hand.frame m ρ

/-- The condition's function states one shape fact. -/
theorem facts_pre : Cert.Pre_rstd_nonneg_finite.Facts := ⟨by decide⟩

/-- The reference's frame: its run read at the arguments; it declares no semaphore. -/
theorem frame_reference : Cert.quiescent_ReferenceIdeal := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

end Cert.Proof

end
-- ==== Proof.Words.lean ====
/- The values of the words of the powers of two. -/
module

public import proofs.«01_k».proof.Proof.Args

@[expose] public section

noncomputable section

namespace Cert.Spec

open Idealize.ShloMosaic

/-! ## The words of the powers of two -/

/-- The value of the word with exponent field `n` and no further bit. -/
def pw (n : ℕ) : EReal := if n = 0 then 0 else if n < 255 then (((2 : ℝ) ^ ((n : ℤ) - 127) : ℝ) : EReal) else ⊤

/-- That word. -/
def wd (n : ℕ) : BitVec 32 := BitVec.ofNat 32 (n * 2 ^ 23)

theorem wd_fields : ∀ n : Fin 256, ((wd n.val).extractLsb' 31 1 == 1#1) = false ∧ ((wd n.val).extractLsb' 23 8).toNat = n.val ∧
    ((wd n.val).extractLsb' 0 23).toNat = 0 := by decide +kernel

theorem ofBits_wd (n : ℕ) (hn : n < 256) : Ideal.ofBits .f32 (wd n) = pw n := by
  obtain ⟨h1, h2, h3⟩ := wd_fields ⟨n, hn⟩
  have hu : Ideal.ofBits .f32 (wd n) = Ideal.ieee 8 23 (wd n) := rfl
  rw [hu]
  unfold Ideal.ieee pw
  simp only [show 8 + 23 = 31 from rfl, h1, h2, h3]
  by_cases h : n = 0
  · subst h; simp
  by_cases h' : n < 255
  · rw [if_neg (show ¬ n = 2 ^ 8 - 1 by norm_num; omega), if_neg h, if_neg h, if_pos h']
    congr 1
    have e : ((n : ℤ) - (2 ^ (8 - 1) - 1) - (23 : ℕ)) = ((n : ℤ) - 127) + (-23) := by norm_num; ring
    rw [e, zpow_add₀ (by norm_num : (2 : ℝ) ≠ 0)]
    norm_num
    ring
  · rw [if_pos (show n = 2 ^ 8 - 1 by norm_num; omega), if_neg h, if_neg h']
    simp

theorem pw_mono {a b : ℕ} (h : a ≤ b) : pw a ≤ pw b := by
  unfold pw
  by_cases ha : a = 0
  · rw [if_pos ha]
    split_ifs
    · exact le_rfl
    · exact EReal.coe_nonneg.2 (zpow_nonneg (by norm_num) _)
    · exact le_top
  · rw [if_neg ha, if_neg (by omega : b ≠ 0)]
    by_cases hb : b < 255
    · rw [if_pos hb, if_pos (by omega)]
      have hab : (a : ℤ) - 127 ≤ (b : ℤ) - 127 := by omega
      exact EReal.coe_le_coe_iff.2 (zpow_le_zpow_right₀ (by norm_num : (1 : ℝ) ≤ 2) hab)
    · rw [if_neg hb]; exact le_top

/-- A word with the sign clear and an exponent field neither zero nor all ones is nonnegative. -/
theorem ofBits_nonneg (w : BitVec 32) (h1 : (w.extractLsb' 31 1 == 1#1) = false) (h2 : (w.extractLsb' 23 8).toNat ≠ 255)
    (h3 : (w.extractLsb' 23 8).toNat ≠ 0) : 0 ≤ Ideal.ofBits .f32 w := by
  have hu : Ideal.ofBits .f32 w = Ideal.ieee 8 23 w := rfl
  rw [hu]
  unfold Ideal.ieee
  simp only [show 8 + 23 = 31 from rfl, h1]
  rw [if_neg (show ¬ _ = 2 ^ 8 - 1 from h2), if_neg h3]
  exact EReal.coe_nonneg.2 (mul_nonneg (mul_nonneg (by simp) (Nat.cast_nonneg _)) (zpow_nonneg (by norm_num) _))

end Cert.Spec

end
-- ==== Proof.Plain.lean ====
/- The block's results in the words of the plain formulas: the gradient with the mean over the row, the parts of the
   weight's gradient as sums over 128 rows, the greatest magnitudes over 128 columns or rows. -/
module

public import proofs.«01_k».proof.Proof.Words
public import Mathlib.Algebra.BigOperators.Fin

@[expose] public section

noncomputable section

namespace Cert.Spec

open Idealize.ShloMosaic

/-! ## Sums and greatest values cut in pieces -/

/-- A sum over `m n` numbers, cut in `m` runs of `n`. -/
theorem sum_split {M : Type} [AddCommMonoid M] (m n : ℕ) (f : ℕ → M) :
    ∑ k : Fin (m * n), f k.val = ∑ u : Fin m, ∑ l : Fin n, f (n * u.val + l.val) := by
  rw [← Equiv.sum_comp finProdFinEquiv (fun k : Fin (m * n) => f k.val), Fintype.sum_prod_type]
  refine Finset.sum_congr rfl fun u _ => Finset.sum_congr rfl fun l _ => ?_
  rw [finProdFinEquiv_apply_val, add_comm]

/-- The greatest of a family is at most a bound iff each member is. -/
theorem fold_max_bot_le {ι : Type} (s : Finset ι) (f : ι → EReal) (c : EReal) :
    s.fold max ⊥ f ≤ c ↔ ∀ x ∈ s, f x ≤ c := by
  rw [Finset.fold_max_le]; simp

theorem ninf_eq : Ideal.ofBits .f32 0xFF800000#32 = ⊥ := by
  simp [Ideal.ofBits, Ideal.ieee]

theorem dim_eq : Ideal.ofBits .f32 0x46000000#32 = (((2 : ℝ) ^ (13 : ℤ) : ℝ) : EReal) := by
  rw [show (0x46000000#32 : BitVec 32) = wd 140 from rfl, ofBits_wd 140 (by omega)]
  simp [pw]

theorem eighth_eq : Ideal.ofBits .f32 0x39000000#32 = (Ideal.ofBits .f32 0x46000000#32)⁻¹ := by
  rw [dim_eq, show (0x39000000#32 : BitVec 32) = wd 114 from rfl, ofBits_wd 114 (by omega), ← EReal.coe_inv]
  simp [pw]

theorem dim_ne_zero : Ideal.ofBits .f32 0x46000000#32 ≠ 0 := by
  rw [dim_eq]
  exact_mod_cast (by positivity : ((2 : ℝ) ^ (13 : ℤ)) ≠ 0)

theorem absf_nonneg (x : EReal) : 0 ≤ FloatOps.absf (F := Ideal) (φ := .f32) x := by
  show 0 ≤ max x (-x)
  rcases le_total 0 x with h | h
  · exact h.trans (le_max_left _ _)
  · exact (EReal.neg_nonneg.2 h).trans (le_max_right _ _)

namespace Blk

variable (B : Blk)

/-! ## The gradient -/

/-- The summed gradient. -/
def n (p j : ℕ) : EReal := (B.q p j + B.k p j) + B.v p j

/-- The dot product of the row. -/
def dot (p : ℕ) : EReal := ∑ k : Fin 8192, (B.n p k.val * B.γ k.val) * (B.x p k.val * B.r p)

/-- The gradient by the plain formula. -/
def plainDx (p j : ℕ) : EReal :=
  B.r p * (B.n p j * B.γ j - (B.x p j * B.r p) * Ideal.div (B.dot p) (Ideal.ofBits .f32 0x46000000#32)) + B.dr p j

theorem gx_eq (p j : ℕ) : B.gx p j = (B.n p j * B.γ j) * (B.x p j * B.r p) := by
  unfold gx g nr n
  ac_rfl

theorem dot_eq (p : ℕ) : B.dot p = ∑ l : Fin 128, ∑ u ∈ Finset.range 64, B.gx p (128 * u + l.val) := by
  unfold dot
  have h := sum_split 64 128 (fun k => B.gx p k)
  simp only [← gx_eq]
  refine (show (∑ k : Fin 8192, B.gx p k.val) = ∑ k : Fin (64 * 128), B.gx p k.val from rfl).trans (h.trans ?_)
  rw [Finset.sum_comm]
  exact Finset.sum_congr rfl fun l _ => (Finset.sum_range (fun u => B.gx p (128 * u + l.val))).symm

/-- The two formulas of the gradient agree where the reciprocal norm is a nonnegative real number. -/
theorem plainDx_eq (p j : ℕ) (h0 : 0 ≤ B.r p) (ht : B.r p ≠ ⊤) : B.plainDx p j = B.dx p j := by
  unfold plainDx dx kk g nr
  rw [Ideal.div, if_neg dim_ne_zero, ← eighth_eq, dot_eq, sub_eq_add_neg, EReal.left_distrib_of_nonneg_of_ne_top h0 ht, sub_eq_add_neg,
    mul_neg]
  generalize (∑ l : Fin 128, ∑ u ∈ Finset.range 64, B.gx p (128 * u + l.val)) * Ideal.ofBits .f32 0x39000000#32 = c
  rw [show B.r p * (B.n p j * B.γ j) = (B.q p j + B.k p j + B.v p j) * B.r p * B.γ j by unfold n; ac_rfl,
    show B.r p * (B.x p j * B.r p * c) = B.x p j * (B.r p * c * B.r p) by ac_rfl]

/-! ## The weight's gradient -/

theorem part_eq (j : ℕ) : B.part j = ∑ p : Fin 128, B.n p.val j * (B.x p.val j * B.r p.val) := by
  have h := sum_split 16 8 (fun p => B.nx p j)
  have e : ∀ p, B.n p j * (B.x p j * B.r p) = B.nx p j := fun p => by unfold nx nr n; ac_rfl
  simp only [e]
  refine Eq.symm ((show (∑ k : Fin 128, B.nx k.val j) = ∑ k : Fin (16 * 8), B.nx k.val j from rfl).trans (h.trans ?_))
  unfold part dgUpTo
  rw [Finset.sum_comm]
  exact Finset.sum_congr rfl fun l _ => (Finset.sum_range (fun u => B.nx (8 * u + l.val) j)).symm

/-! ## The greatest magnitudes -/

theorem colMax_eq (j : ℕ) :
    Finset.univ.fold max (Ideal.ofBits .f32 0xFF800000#32) (fun s : Fin 8 => B.cmUpTo 16 s.val j) =
      Finset.univ.fold max (Ideal.ofBits .f32 0xFF800000#32) (fun p : Fin 128 => B.ab p.val j) := by
  rw [ninf_eq]
  refine eq_of_forall_ge_iff fun c => ?_
  rw [fold_max_bot_le, fold_max_bot_le]
  constructor
  · intro h p _
    have := (Finset.fold_max_le _).1 (h ⟨p.val % 8, by omega⟩ (Finset.mem_univ _))
    have h2 := this.2 (p.val / 8) (Finset.mem_range.2 (by omega))
    dsimp only at h2
    rwa [Nat.div_add_mod] at h2
  · intro h s _
    refine (Finset.fold_max_le _).2 ⟨(absf_nonneg _).trans (h ⟨0, by omega⟩ (Finset.mem_univ _)), fun a ha => ?_⟩
    have ha := Finset.mem_range.1 ha
    exact h ⟨8 * a + s.val, by omega⟩ (Finset.mem_univ _)

/-- A greatest magnitude, scaled, is nonnegative. -/
theorem fold_nonneg (f : Fin 128 → EReal) (hf : ∀ l, 0 ≤ f l) :
    0 ≤ Finset.univ.fold max (Ideal.ofBits .f32 0xFF800000#32) f * Ideal.ofBits .f32 0x3B124925#32 := by
  refine mul_nonneg ?_ ?_
  · exact (hf 0).trans ((Finset.fold_max_le _).1 le_rfl |>.2 0 (Finset.mem_univ _))
  · exact ofBits_nonneg _ (by decide) (by decide) (by decide)

end Blk

end Cert.Spec

end
-- ==== Proof.Quant.lean ====
/- The scale of the quantiser: the exponent field found by compares is the floor of the logarithm to base two. -/
module

public import proofs.«01_k».proof.Proof.Plain

@[expose] public section

noncomputable section

namespace Cert.Spec

open Idealize.ShloMosaic

/-! ## The search -/

/-- A step from field `a` by `s` fields. -/
theorem sstep_wd (m : EReal) (a s : ℕ) (h : a + s < 256) :
    sstep m (wd a) (wd s) = if pw (a + s) ≤ m then wd (a + s) else wd a := by
  have e : IntOp.addi (wd a) (wd s) = wd (a + s) := by
    show wd a + wd s = wd (a + s)
    unfold wd
    rw [Nat.add_mul, BitVec.ofNat_add]
  unfold sstep
  rw [e]
  have e2 : FloatOps.cmpf (F := Ideal) (φ := .f32) .ole (FloatOps.ofBits (F := Ideal) .f32 (wd (a + s) : BitVec 32)) m
      = BitVec.ofBool (decide (pw (a + s) ≤ m)) := by
    rw [← ofBits_wd (a + s) h]; rfl
  rw [e2]
  by_cases hc : pw (a + s) ≤ m
  · simp [hc, Scalar.select]
  · simp [hc, Scalar.select]

/-- The search stands at a field whose word is at most the value, and the value is less than the word `s` fields on. -/
def At (m : EReal) (b : BitVec 32) (s : ℕ) : Prop := ∃ a, b = wd a ∧ a + s ≤ 256 ∧ pw a ≤ m ∧ m < pw (a + s)

theorem At.step {m : EReal} {b : BitVec 32} {s : ℕ} (hs : 0 < s) (h : At m b (s + s)) : At m (sstep m b (wd s)) s := by
  obtain ⟨a, rfl, h1, h2, h3⟩ := h
  rw [sstep_wd m a s (by omega)]
  by_cases hc : pw (a + s) ≤ m
  · rw [if_pos hc]
    exact ⟨a + s, rfl, by omega, hc, by rwa [Nat.add_assoc]⟩
  · rw [if_neg hc]
    exact ⟨a, rfl, by omega, h2, not_le.1 hc⟩

theorem words : (0#32 : BitVec 32) = wd 0 ∧ 1073741824#32 = wd 128 ∧ 536870912#32 = wd 64 ∧ 268435456#32 = wd 32 ∧ 134217728#32 = wd 16 ∧
    67108864#32 = wd 8 ∧ 33554432#32 = wd 4 ∧ 16777216#32 = wd 2 ∧ 8388608#32 = wd 1 := by decide +kernel

theorem search_at (m : EReal) (h0 : 0 ≤ m) (ht : m < ⊤) : At m (sstep m (sfirst m) 8388608#32) 1 := by
  obtain ⟨w0, w1, w2, w3, w4, w5, w6, w7, w8⟩ := words
  have a0 : At m (wd 0) (128 + 128) := ⟨0, rfl, by omega, by rw [pw, if_pos rfl]; exact h0,
    by rw [pw, if_neg (by omega), if_neg (by omega)]; exact ht⟩
  have a1 : At m _ (64 + 64) := a0.step (by omega)
  have a2 : At m _ (32 + 32) := a1.step (by omega)
  have a3 : At m _ (16 + 16) := a2.step (by omega)
  have a4 : At m _ (8 + 8) := a3.step (by omega)
  have a5 : At m _ (4 + 4) := a4.step (by omega)
  have a6 : At m _ (2 + 2) := a5.step (by omega)
  have a7 : At m _ (1 + 1) := a6.step (by omega)
  have a8 : At m _ 1 := a7.step (by omega)
  unfold sfirst
  rw [w0, w1, w2, w3, w4, w5, w6, w7, w8]
  exact a8

end Cert.Spec

end
-- ==== Proof.Ref.lean ====
/- The reference's results at an index. -/
module

public import proofs.«01_k».proof.Proof.Args
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.Tactic

variable (m : (ℓ : Loc nD τ sig) → Buf (Elt Ideal) ℓ) (c : Dev nD)

/-- The arguments of the program in a memory. -/
def argsOf : Args where
  x := m ((c : Thread nD τ).loc main_arg0)
  rstd := m ((c : Thread nD τ).loc main_arg1)
  gamma := m ((c : Thread nD τ).loc main_arg2)
  dr := m ((c : Thread nD τ).loc main_arg3)
  q := m ((c : Thread nD τ).loc main_arg4)
  k := m ((c : Thread nD τ).loc main_arg5)
  v := m ((c : Thread nD τ).loc main_arg6)

/-- The sum of the three gradients. -/
def dNT : FVec Ideal S4x4096x8192 .f32 :=
  addf (addf (extf .f32 (m ((c.tc : Thread nD τ).loc main_arg4)) bitsLt_bf16_f32) (extf .f32 (m ((c.tc : Thread nD τ).loc main_arg5)) bitsLt_bf16_f32)) (extf .f32 (m ((c.tc : Thread nD τ).loc main_arg6)) bitsLt_bf16_f32)

/-- The reciprocal deviations over the columns. -/
def rT : FVec Ideal S4x4096x8192 .f32 :=
  broadcastInDim S4x4096x8192 ![0, 1, 2] bcast_S4x4096x1_S4x4096x8192_0_1_2 (broadcastInDim S4x4096x1 ![0, 1] bcast_S4x4096_S4x4096x1_0_1 (m ((c.tc : Thread nD τ).loc main_arg1)))

/-- The weight over the rows. -/
def gT : FVec Ideal S4x4096x8192 .f32 :=
  broadcastInDim S4x4096x8192 ![0, 1, 2] bcast_S1x1x8192_S4x4096x8192_0_1_2 (broadcastInDim S1x1x8192 ![2] bcast_S8192_S1x1x8192_2 (m ((c.tc : Thread nD τ).loc main_arg2)))

/-- The normalised input. -/
def xhatT : FVec Ideal S4x4096x8192 .f32 :=
  mulf (extf .f32 (m ((c.tc : Thread nD τ).loc main_arg0)) bitsLt_bf16_f32) (rT m c)

/-- The gradient of the normalised input. -/
def dxnT : FVec Ideal S4x4096x8192 .f32 :=
  mulf (dNT m c) (gT m c)

/-- The dot products of the rows. -/
def dotT : FVec Ideal S4x4096 .f32 :=
  Host.reduceAdd (mulf (dxnT m c) (xhatT m c)) (constant S_ .f32 0x00000000#32) reducesTo_S4x4096x8192_S4x4096_d2 h_S_

/-- The gradient of the input with the residual added. -/
def dxtT : FVec Ideal S4x4096x8192 .f32 :=
  addf (mulf (rT m c) (subf (dxnT m c) (mulf (xhatT m c) (broadcastInDim S4x4096x8192 ![0, 1, 2] bcast_S4x4096x1_S4x4096x8192_0_1_2 (Host.divf (broadcastInDim S4x4096x1 ![0, 1] bcast_S4x4096_S4x4096x1_0_1 (dotT m c)) (broadcastInDim S4x4096x1 ![] bcast_S_S4x4096x1 (constant S_ .f32 0x46000000#32))))))) (extf .f32 (m ((c.tc : Thread nD τ).loc main_arg3)) bitsLt_bf16_f32)

/-- The parts of the weight's gradient. -/
def partT : FVec Ideal S4x32x8192 .f32 :=
  Host.reduceAdd (shapeCast S4x32x128x8192 (mulf (dNT m c) (xhatT m c)) shapeCasts_S4x4096x8192_S4x32x128x8192) (constant S_ .f32 0x00000000#32) reducesTo_S4x32x128x8192_S4x32x8192_d2 h_S_

/-! ## At an index -/

/-- The sum of the gradients at an index. -/
theorem dNT_at (i : S4x4096x8192.Idx) : dNT m c i = ((argsOf m c).q i + (argsOf m c).k i) + (argsOf m c).v i := rfl

/-- The reciprocal norm does not depend on the column. -/
theorem rT_at (a : Fin 4) (b : Fin 4096) (j : Fin 8192) : rT m c (ix3 a b j) = (argsOf m c).rstd (ix2 a b) := by
  unfold rT argsOf
  pointwise

/-- The weight does not depend on the row. -/
theorem gT_at (a : Fin 4) (b : Fin 4096) (j : Fin 8192) : gT m c (ix3 a b j) = (argsOf m c).gamma (ix1 j) := by
  unfold gT argsOf
  pointwise

/-- The normalised input at an index. -/
theorem xhatT_at (i : S4x4096x8192.Idx) : xhatT m c i = (argsOf m c).x i * rT m c i := rfl

/-- The gradient of the normalised input at an index. -/
theorem dxnT_at (i : S4x4096x8192.Idx) : dxnT m c i = dNT m c i * gT m c i := rfl

/-- The dot product of a row. -/
theorem dotT_at (a : Fin 4) (b : Fin 4096) : dotT m c (ix2 a b) = ∑ k : Fin 8192, dxnT m c (ix3 a b k) * xhatT m c (ix3 a b k) := by
  unfold dotT
  pointwise

/-- The gradient of the input at an index, the residual added. -/
theorem dxtT_at (a : Fin 4) (b : Fin 4096) (j : Fin 8192) : dxtT m c (ix3 a b j) =
    rT m c (ix3 a b j) * (dxnT m c (ix3 a b j) - xhatT m c (ix3 a b j) * Ideal.div (dotT m c (ix2 a b)) (Ideal.ofBits .f32 0x46000000#32)) +
      (argsOf m c).dr (ix3 a b j) := by
  unfold dxtT argsOf
  pointwise

/-- A sum over the rows of a block. -/
theorem sum128_at (E : FVec Ideal S4x32x128x8192 .f32) (a : Fin 4) (n : Fin 32) (j : Fin 8192) :
    Host.reduceAdd E (constant S_ .f32 0x00000000#32) reducesTo_S4x32x128x8192_S4x32x8192_d2 h_S_ (ix3 a n j) = ∑ l : Fin 128, E (ix4 a n l j) := by
  pointwise

/-- The rows split into blocks of 128. -/
theorem cast128_at (D : FVec Ideal S4x4096x8192 .f32) (a : Fin 4) (n : Fin 32) (l : Fin 128) (j : Fin 8192) :
    shapeCast S4x32x128x8192 D shapeCasts_S4x4096x8192_S4x32x128x8192 (ix4 a n l j) = D (ix3 a ⟨n.val * 128 + l.val, by omega⟩ j) := by
  pointwise

/-- A part of the gradient of the weight: the sum over the rows of its block. -/
theorem partT_at (a : Fin 4) (n : Fin 32) (j : Fin 8192) : partT m c (ix3 a n j) =
    ∑ l : Fin 128, dNT m c (ix3 a ⟨n.val * 128 + l.val, by omega⟩ j) * xhatT m c (ix3 a ⟨n.val * 128 + l.val, by omega⟩ j) := by
  unfold partT
  rw [sum128_at]
  refine Finset.sum_congr rfl fun l _ => ?_
  rw [cast128_at]
  rfl

/-- The indices that a sum over the two leading axes joins at a column. -/
theorem fiber (h : S4x32x8192.ReducesTo [0, 1] S8192) (j : Fin 8192) (i : S4x32x8192.Idx) :
    h.drop i = ix1 j ↔ ∃ k : Fin 4 × Fin 32, (ix3 k.1 k.2 j : S4x32x8192.Idx) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A sum over the two leading axes. -/
theorem sum01_at (E : FVec Ideal S4x32x8192 .f32) (j : Fin 8192) :
    Host.reduceAdd E (constant S_ .f32 0x00000000#32) reducesTo_S4x32x8192_S8192_d0_1 h_S_ (ix1 j) = ∑ a : Fin 4, ∑ n : Fin 32, E (ix3 a n j) := by
  pointwise
  unfold Ideal.hostReduceAdd
  rw [zero_add, Finset.sum_filter_eq_sum_of_fiber _ (fun k : Fin 4 × Fin 32 => (ix3 k.1 k.2 j : S4x32x8192.Idx)) ?_ (fiber _ j), Fintype.sum_prod_type]
  intro k k' e
  exact Prod.ext (congrFun e 0) (congrFun e 1)

end Cert.ReferenceIdeal.Hand

end
-- ==== Proof.RefQ.lean ====
/- The quantiser of the reference at an index, of any array. -/
module

public import proofs.«01_k».proof.Proof.Ref

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.Tactic

/-- The exponent the reference takes of a value, elementwise; the bit patterns of its constants are variables. -/
def expT {S : Shape} (b : S_.BroadcastsInDim S ![]) (lo hi z two one : BitVec 32) (M : FVec Ideal S .f32) : FVec Ideal S .f32 :=
  select (ori (cmpf .olt M (broadcastInDim S ![] b (constant S_ .f32 lo))) (cmpf .oge M (broadcastInDim S ![] b (constant S_ .f32 hi))))
    (broadcastInDim S ![] b (id (constant S_ .f32 z)))
    (addf (Host.floor (Host.divf (Host.log M) (broadcastInDim S ![] b (Host.log (constant S_ .f32 two)))))
      (broadcastInDim S ![] b (constant S_ .f32 one)))

/-- The greatest magnitude of 128 columns of a row, over the greatest code. -/
def rowMaxT (D : FVec Ideal S4x4096x8192 .f32) : FVec Ideal S4x4096x64x1 .f32 :=
  mulf (broadcastInDim S4x4096x64x1 ![0, 1, 2] bcast_S4x4096x64_S4x4096x64x1_0_1_2 (Host.reduce FloatOps.maximumf (Host.absf (shapeCast _ D shapeCasts_S4x4096x8192_S4x4096x64x128)) (constant S_ .f32 0xFF800000#32) reducesTo_S4x4096x64x128_S4x4096x64_d3 h_S_)) (broadcastInDim S4x4096x64x1 ![] bcast_S_S4x4096x64x1 (constant S_ .f32 0x3B124925#32))

/-- Its exponent. -/
def rowExpT (D : FVec Ideal S4x4096x8192 .f32) : FVec Ideal S4x4096x64x1 .f32 :=
  expT bcast_S_S4x4096x64x1 0x00800000#32 0x7F000000#32 0x00000000#32 0x40000000#32 0x3F800000#32 (rowMaxT D)

/-- The scales of 128 columns of a row. -/
def rowScaleT (D : FVec Ideal S4x4096x8192 .f32) : FVec Ideal S4x4096x64 .f32 :=
  shapeCast _ (Host.powf (broadcastInDim S4x4096x64x1 ![] bcast_S_S4x4096x64x1 (constant S_ .f32 0x40000000#32)) (rowExpT D)) shapeCasts_S4x4096x64x1_S4x4096x64

/-- The codes with the scales of 128 columns of a row. -/
def rowCodeT (D : FVec Ideal S4x4096x8192 .f32) : FVec Ideal S4x4096x8192 .fp8e4m3 :=
  shapeCast _ (Host.convertf .fp8e4m3 (minimumf (broadcastInDim S4x4096x64x128 ![] bcast_S_S4x4096x64x128 (id (constant S_ .f32 0x43E00000#32))) (maximumf (broadcastInDim S4x4096x64x128 ![] bcast_S_S4x4096x64x128 (id (constant S_ .f32 0xC3E00000#32))) (mulf (shapeCast _ D shapeCasts_S4x4096x8192_S4x4096x64x128) (broadcastInDim S4x4096x64x128 ![0, 1, 2, 3] bcast_S4x4096x64x1_S4x4096x64x128_0_1_2_3 (select (cmpf .olt (rowExpT D) (broadcastInDim S4x4096x64x1 ![] bcast_S_S4x4096x64x1 (constant S_ .f32 0x42FE0000#32))) (Host.powf (broadcastInDim S4x4096x64x1 ![] bcast_S_S4x4096x64x1 (constant S_ .f32 0x40000000#32)) (Host.negf (rowExpT D))) (broadcastInDim S4x4096x64x1 ![] bcast_S_S4x4096x64x1 (id (constant S_ .f32 0x00000000#32))))))))) shapeCasts_S4x4096x64x128_S4x4096x8192

/-- The greatest magnitude of a column of a block, over the greatest code. -/
def colMaxT (D : FVec Ideal S4x4096x8192 .f32) : FVec Ideal S4x32x1x8192 .f32 :=
  mulf (broadcastInDim S4x32x1x8192 ![0, 1, 3] bcast_S4x32x8192_S4x32x1x8192_0_1_3 (Host.reduce FloatOps.maximumf (Host.absf (shapeCast _ D shapeCasts_S4x4096x8192_S4x32x128x8192)) (constant S_ .f32 0xFF800000#32) reducesTo_S4x32x128x8192_S4x32x8192_d2 h_S_)) (broadcastInDim S4x32x1x8192 ![] bcast_S_S4x32x1x8192 (constant S_ .f32 0x3B124925#32))

/-- Its exponent. -/
def colExpT (D : FVec Ideal S4x4096x8192 .f32) : FVec Ideal S4x32x1x8192 .f32 :=
  expT bcast_S_S4x32x1x8192 0x00800000#32 0x7F000000#32 0x00000000#32 0x40000000#32 0x3F800000#32 (colMaxT D)

/-- The scales of a column of a block. -/
def colScaleT (D : FVec Ideal S4x4096x8192 .f32) : FVec Ideal S4x32x8192 .f32 :=
  shapeCast _ (Host.powf (broadcastInDim S4x32x1x8192 ![] bcast_S_S4x32x1x8192 (constant S_ .f32 0x40000000#32)) (colExpT D)) shapeCasts_S4x32x1x8192_S4x32x8192

/-- The codes with the scales of a column of a block. -/
def colCodeT (D : FVec Ideal S4x4096x8192 .f32) : FVec Ideal S4x4096x8192 .fp8e4m3 :=
  shapeCast _ (Host.convertf .fp8e4m3 (minimumf (broadcastInDim S4x32x128x8192 ![] bcast_S_S4x32x128x8192 (id (constant S_ .f32 0x43E00000#32))) (maximumf (broadcastInDim S4x32x128x8192 ![] bcast_S_S4x32x128x8192 (id (constant S_ .f32 0xC3E00000#32))) (mulf (shapeCast _ D shapeCasts_S4x4096x8192_S4x32x128x8192) (broadcastInDim S4x32x128x8192 ![0, 1, 2, 3] bcast_S4x32x1x8192_S4x32x128x8192_0_1_2_3 (select (cmpf .olt (colExpT D) (broadcastInDim S4x32x1x8192 ![] bcast_S_S4x32x1x8192 (constant S_ .f32 0x42FE0000#32))) (Host.powf (broadcastInDim S4x32x1x8192 ![] bcast_S_S4x32x1x8192 (constant S_ .f32 0x40000000#32)) (Host.negf (colExpT D))) (broadcastInDim S4x32x1x8192 ![] bcast_S_S4x32x1x8192 (id (constant S_ .f32 0x00000000#32))))))))) shapeCasts_S4x32x128x8192_S4x4096x8192

theorem rowRed_at (w0 : BitVec 32) (E : FVec Ideal S4x4096x64x128 .f32) (a : Fin 4) (b : Fin 4096) (u : Fin 64) :
    Host.reduce FloatOps.maximumf E (constant S_ .f32 w0) reducesTo_S4x4096x64x128_S4x4096x64_d3 h_S_ (ix3 a b u) =
      Finset.fold max (Ideal.ofBits .f32 w0) (fun x => E (ix4 a b u x)) Finset.univ := by
  pointwise

theorem rowUp_at (R : FVec Ideal S4x4096x64 .f32) (w : BitVec 32) (a : Fin 4) (b : Fin 4096) (u : Fin 64) (k : Fin 1) :
    mulf (broadcastInDim S4x4096x64x1 ![0, 1, 2] bcast_S4x4096x64_S4x4096x64x1_0_1_2 R) (broadcastInDim S4x4096x64x1 ![] bcast_S_S4x4096x64x1 (constant S_ .f32 w)) (ix4 a b u k) =
      R (ix3 a b u) * Ideal.ofBits .f32 w := by
  pointwise

theorem rowDown_at (E : FVec Ideal S4x4096x64x1 .f32) (a : Fin 4) (b : Fin 4096) (u : Fin 64) :
    shapeCast S4x4096x64 E shapeCasts_S4x4096x64x1_S4x4096x64 (ix3 a b u) =
      E (ix4 a b u 0) := by
  pointwise

theorem rowPow_at (w : BitVec 32) (E : FVec Ideal S4x4096x64x1 .f32) (a : Fin 4) (b : Fin 4096) (u : Fin 64) (k : Fin 1) :
    Host.powf (broadcastInDim S4x4096x64x1 ![] bcast_S_S4x4096x64x1 (constant S_ .f32 w)) E (ix4 a b u k) =
      Ideal.pow (Ideal.ofBits .f32 w) (E (ix4 a b u k)) := by
  pointwise

theorem rowCast_at (D : FVec Ideal S4x4096x8192 .f32) (a : Fin 4) (b : Fin 4096) (u : Fin 64) (l : Fin 128) :
    shapeCast S4x4096x64x128 D shapeCasts_S4x4096x8192_S4x4096x64x128 (ix4 a b u l) =
      D (ix3 a b ⟨u.val * 128 + l.val, by omega⟩) := by
  pointwise

theorem rowBack_at (C : FVec Ideal S4x4096x64x128 .fp8e4m3) (a : Fin 4) (b : Fin 4096) (j : Fin 8192) :
    shapeCast S4x4096x8192 C shapeCasts_S4x4096x64x128_S4x4096x8192 (ix3 a b j) =
      C (ix4 a b ⟨j.val / 128, by omega⟩ ⟨j.val % 128, by omega⟩) := by
  pointwise

theorem rowClip_at (w3 w4 : BitVec 32) (X : FVec Ideal S4x4096x64x128 .f32) (P : FVec Ideal S4x4096x64x1 .f32) (a : Fin 4) (b : Fin 4096) (u : Fin 64) (l : Fin 128) :
    (Host.convertf .fp8e4m3 (minimumf (broadcastInDim S4x4096x64x128 ![] bcast_S_S4x4096x64x128 (id (constant S_ .f32 w3))) (maximumf (broadcastInDim S4x4096x64x128 ![] bcast_S_S4x4096x64x128 (id (constant S_ .f32 w4))) (mulf X (broadcastInDim S4x4096x64x128 ![0, 1, 2, 3] bcast_S4x4096x64x1_S4x4096x64x128_0_1_2_3 P)))) : FVec Ideal S4x4096x64x128 .fp8e4m3) (ix4 a b u l) =
      min (Ideal.ofBits .f32 w3) (max (Ideal.ofBits .f32 w4) (X (ix4 a b u l) * P (ix4 a b u 0))) := by
  simp only [id]
  pointwise

theorem colRed_at (w0 : BitVec 32) (E : FVec Ideal S4x32x128x8192 .f32) (a : Fin 4) (n : Fin 32) (j : Fin 8192) :
    Host.reduce FloatOps.maximumf E (constant S_ .f32 w0) reducesTo_S4x32x128x8192_S4x32x8192_d2 h_S_ (ix3 a n j) =
      Finset.fold max (Ideal.ofBits .f32 w0) (fun x => E (ix4 a n x j)) Finset.univ := by
  pointwise

theorem colUp_at (R : FVec Ideal S4x32x8192 .f32) (w : BitVec 32) (a : Fin 4) (n : Fin 32) (j : Fin 8192) (k : Fin 1) :
    mulf (broadcastInDim S4x32x1x8192 ![0, 1, 3] bcast_S4x32x8192_S4x32x1x8192_0_1_3 R) (broadcastInDim S4x32x1x8192 ![] bcast_S_S4x32x1x8192 (constant S_ .f32 w)) (ix4 a n k j) =
      R (ix3 a n j) * Ideal.ofBits .f32 w := by
  pointwise

theorem colDown_at (E : FVec Ideal S4x32x1x8192 .f32) (a : Fin 4) (n : Fin 32) (j : Fin 8192) :
    shapeCast S4x32x8192 E shapeCasts_S4x32x1x8192_S4x32x8192 (ix3 a n j) =
      E (ix4 a n 0 j) := by
  pointwise

theorem colPow_at (w : BitVec 32) (E : FVec Ideal S4x32x1x8192 .f32) (a : Fin 4) (n : Fin 32) (j : Fin 8192) (k : Fin 1) :
    Host.powf (broadcastInDim S4x32x1x8192 ![] bcast_S_S4x32x1x8192 (constant S_ .f32 w)) E (ix4 a n k j) =
      Ideal.pow (Ideal.ofBits .f32 w) (E (ix4 a n k j)) := by
  pointwise

theorem colCast_at (D : FVec Ideal S4x4096x8192 .f32) (a : Fin 4) (n : Fin 32) (l : Fin 128) (j : Fin 8192) :
    shapeCast S4x32x128x8192 D shapeCasts_S4x4096x8192_S4x32x128x8192 (ix4 a n l j) =
      D (ix3 a ⟨n.val * 128 + l.val, by omega⟩ j) := by
  pointwise

theorem colBack_at (C : FVec Ideal S4x32x128x8192 .fp8e4m3) (a : Fin 4) (b : Fin 4096) (j : Fin 8192) :
    shapeCast S4x4096x8192 C shapeCasts_S4x32x128x8192_S4x4096x8192 (ix3 a b j) =
      C (ix4 a ⟨b.val / 128, by omega⟩ ⟨b.val % 128, by omega⟩ j) := by
  pointwise

theorem colClip_at (w3 w4 : BitVec 32) (X : FVec Ideal S4x32x128x8192 .f32) (P : FVec Ideal S4x32x1x8192 .f32) (a : Fin 4) (n : Fin 32) (l : Fin 128) (j : Fin 8192) :
    (Host.convertf .fp8e4m3 (minimumf (broadcastInDim S4x32x128x8192 ![] bcast_S_S4x32x128x8192 (id (constant S_ .f32 w3))) (maximumf (broadcastInDim S4x32x128x8192 ![] bcast_S_S4x32x128x8192 (id (constant S_ .f32 w4))) (mulf X (broadcastInDim S4x32x128x8192 ![0, 1, 2, 3] bcast_S4x32x1x8192_S4x32x128x8192_0_1_2_3 P)))) : FVec Ideal S4x32x128x8192 .fp8e4m3) (ix4 a n l j) =
      min (Ideal.ofBits .f32 w3) (max (Ideal.ofBits .f32 w4) (X (ix4 a n l j) * P (ix4 a n 0 j))) := by
  simp only [id]
  pointwise

theorem rowInv_at (w w5 z : BitVec 32) (E : FVec Ideal S4x4096x64x1 .f32) (a : Fin 4) (b : Fin 4096) (u : Fin 64) (k : Fin 1) :
    select (cmpf .olt E (broadcastInDim S4x4096x64x1 ![] bcast_S_S4x4096x64x1 (constant S_ .f32 w5))) (Host.powf (broadcastInDim S4x4096x64x1 ![] bcast_S_S4x4096x64x1 (constant S_ .f32 w)) (Host.negf E)) (broadcastInDim S4x4096x64x1 ![] bcast_S_S4x4096x64x1 (id (constant S_ .f32 z))) (ix4 a b u k) =
      Scalar.select (BitVec.ofBool (decide (E (ix4 a b u k) < Ideal.ofBits .f32 w5))) (Ideal.pow (Ideal.ofBits .f32 w) (-E (ix4 a b u k))) (Ideal.ofBits .f32 z) := by
  simp only [id]
  pointwise

theorem colInv_at (w w5 z : BitVec 32) (E : FVec Ideal S4x32x1x8192 .f32) (a : Fin 4) (n : Fin 32) (j : Fin 8192) (k : Fin 1) :
    select (cmpf .olt E (broadcastInDim S4x32x1x8192 ![] bcast_S_S4x32x1x8192 (constant S_ .f32 w5))) (Host.powf (broadcastInDim S4x32x1x8192 ![] bcast_S_S4x32x1x8192 (constant S_ .f32 w)) (Host.negf E)) (broadcastInDim S4x32x1x8192 ![] bcast_S_S4x32x1x8192 (id (constant S_ .f32 z))) (ix4 a n k j) =
      Scalar.select (BitVec.ofBool (decide (E (ix4 a n k j) < Ideal.ofBits .f32 w5))) (Ideal.pow (Ideal.ofBits .f32 w) (-E (ix4 a n k j))) (Ideal.ofBits .f32 z) := by
  simp only [id]
  pointwise

/-- The exponent the reference takes of a value. -/
def refExp (lo hi z two one : BitVec 32) (x : EReal) : EReal :=
  Scalar.select (IntOp.ori (BitVec.ofBool (decide (x < Ideal.ofBits .f32 lo))) (BitVec.ofBool (decide (Ideal.ofBits .f32 hi ≤ x))))
    (Ideal.ofBits .f32 z)
    (Ideal.liftRound Int.floor (Ideal.div (Ideal.log x) (Ideal.log (Ideal.ofBits .f32 two))) + Ideal.ofBits .f32 one)

theorem expT_at {S : Shape} (b : S_.BroadcastsInDim S ![]) (lo hi z two one : BitVec 32) (M : FVec Ideal S .f32) (i : S.Idx) :
    expT b lo hi z two one M i = refExp lo hi z two one (M i) := by
  simp only [expT, refExp, id]
  pointwise

/-- With the constants of the reference. -/
def refE (x : EReal) : EReal := refExp 0x00800000#32 0x7F000000#32 0x00000000#32 0x40000000#32 0x3F800000#32 x

/-- The reference's scale of a value, -/
def refScale (x : EReal) : EReal := Ideal.pow (Ideal.ofBits .f32 0x40000000#32) (refE x)

/-- and its inverse. -/
def refInverse (x : EReal) : EReal :=
  Scalar.select (BitVec.ofBool (decide (refE x < Ideal.ofBits .f32 0x42FE0000#32))) (Ideal.pow (Ideal.ofBits .f32 0x40000000#32) (-(refE x)))
    (Ideal.ofBits .f32 0x00000000#32)

theorem absf_at {S : Shape} (E : FVec Ideal S .f32) (i : S.Idx) : Host.absf E i = FloatOps.absf (E i) := rfl
theorem negf_at {S : Shape} (E : FVec Ideal S .f32) (i : S.Idx) : Host.negf E i = -E i := rfl

theorem rowMaxT_at (D : FVec Ideal S4x4096x8192 .f32) (a : Fin 4) (b : Fin 4096) (u : Fin 64) (k : Fin 1) :
    rowMaxT D (ix4 a b u k) = (Finset.fold max (Ideal.ofBits .f32 0xFF800000#32) (fun l : Fin 128 => (FloatOps.absf (D (ix3 a b ⟨u.val * 128 + l.val, by omega⟩)) : EReal)) Finset.univ) * Ideal.ofBits .f32 0x3B124925#32 := by
  unfold rowMaxT
  rw [rowUp_at, rowRed_at]
  congr 2
  funext l
  rw [absf_at, rowCast_at]

theorem rowScaleT_at (D : FVec Ideal S4x4096x8192 .f32) (a : Fin 4) (b : Fin 4096) (u : Fin 64) :
    rowScaleT D (ix3 a b u) = refScale (((Finset.fold max (Ideal.ofBits .f32 0xFF800000#32) (fun l : Fin 128 => (FloatOps.absf (D (ix3 a b ⟨u.val * 128 + l.val, by omega⟩)) : EReal)) Finset.univ) * Ideal.ofBits .f32 0x3B124925#32)) := by
  unfold rowScaleT
  rw [rowDown_at, rowPow_at]
  unfold rowExpT
  rw [expT_at, rowMaxT_at]
  rfl

theorem rowCodeT_at (D : FVec Ideal S4x4096x8192 .f32) (a : Fin 4) (b : Fin 4096) (j : Fin 8192) :
    rowCodeT D (ix3 a b j) = min (Ideal.ofBits .f32 0x43E00000#32) (max (Ideal.ofBits .f32 0xC3E00000#32)
      (D (ix3 a b j) * refInverse ((((Finset.fold max (Ideal.ofBits .f32 0xFF800000#32) (fun l : Fin 128 => (FloatOps.absf (D (ix3 a b ⟨(j.val / 128) * 128 + l.val, by omega⟩)) : EReal)) Finset.univ) * Ideal.ofBits .f32 0x3B124925#32))))) := by
  unfold rowCodeT
  rw [rowBack_at, rowClip_at, rowCast_at, rowInv_at]
  unfold rowExpT
  rw [expT_at, rowMaxT_at]
  have hj : (⟨(j.val / 128) * 128 + j.val % 128, by omega⟩ : Fin 8192) = j := Fin.ext (by dsimp only; omega)
  rw [hj]
  rfl

theorem colMaxT_at (D : FVec Ideal S4x4096x8192 .f32) (a : Fin 4) (n : Fin 32) (j : Fin 8192) (k : Fin 1) :
    colMaxT D (ix4 a n k j) = (Finset.fold max (Ideal.ofBits .f32 0xFF800000#32) (fun l : Fin 128 => (FloatOps.absf (D (ix3 a ⟨n.val * 128 + l.val, by omega⟩ j)) : EReal)) Finset.univ) * Ideal.ofBits .f32 0x3B124925#32 := by
  unfold colMaxT
  rw [colUp_at, colRed_at]
  congr 2
  funext l
  rw [absf_at, colCast_at]

theorem colScaleT_at (D : FVec Ideal S4x4096x8192 .f32) (a : Fin 4) (n : Fin 32) (j : Fin 8192) :
    colScaleT D (ix3 a n j) = refScale (((Finset.fold max (Ideal.ofBits .f32 0xFF800000#32) (fun l : Fin 128 => (FloatOps.absf (D (ix3 a ⟨n.val * 128 + l.val, by omega⟩ j)) : EReal)) Finset.univ) * Ideal.ofBits .f32 0x3B124925#32)) := by
  unfold colScaleT
  rw [colDown_at, colPow_at]
  unfold colExpT
  rw [expT_at, colMaxT_at]
  rfl

theorem colCodeT_at (D : FVec Ideal S4x4096x8192 .f32) (a : Fin 4) (b : Fin 4096) (j : Fin 8192) :
    colCodeT D (ix3 a b j) = min (Ideal.ofBits .f32 0x43E00000#32) (max (Ideal.ofBits .f32 0xC3E00000#32)
      (D (ix3 a b j) * refInverse ((((Finset.fold max (Ideal.ofBits .f32 0xFF800000#32) (fun l : Fin 128 => (FloatOps.absf (D (ix3 a ⟨(b.val / 128) * 128 + l.val, by omega⟩ j)) : EReal)) Finset.univ) * Ideal.ofBits .f32 0x3B124925#32))))) := by
  unfold colCodeT
  rw [colBack_at, colClip_at, colCast_at, colInv_at]
  unfold colExpT
  rw [expT_at, colMaxT_at]
  have hb : (⟨(b.val / 128) * 128 + b.val % 128, by omega⟩ : Fin 4096) = b := Fin.ext (by dsimp only; omega)
  rw [hb]
  rfl

variable (m : (ℓ : Loc nD τ sig) → Buf (Elt Ideal) ℓ) (c : Dev nD)

theorem res91 : res_main_v91 m c = rowCodeT (dxtT m c) := rfl
theorem res92 : res_main_v92 m c = rowScaleT (dxtT m c) := rfl
theorem res93 : res_main_v93 m c = colCodeT (dxtT m c) := rfl
theorem res94 : res_main_v94 m c = colScaleT (dxtT m c) := rfl

end Cert.ReferenceIdeal.Hand

end
-- ==== Proof.QuantRef.lean ====
/- The two forms of the scale agree: the field found by compares, and the floor of the logarithm to base two. -/
module

public import proofs.«01_k».proof.Proof.Quant
public import proofs.«01_k».proof.Proof.RefQ

@[expose] public section

noncomputable section

namespace Cert.ReferenceIdeal.Hand

open Cert.Spec
open Idealize.ShloMosaic

theorem sel_one (a b : EReal) : Scalar.select 1#1 a b = a := rfl
theorem sel_zero (a b : EReal) : Scalar.select 0#1 a b = b := rfl
theorem selw_one (a b : BitVec 32) : Scalar.select 1#1 a b = a := rfl
theorem selw_zero (a b : BitVec 32) : Scalar.select 0#1 a b = b := rfl
theorem ob_true : BitVec.ofBool true = 1#1 := rfl
theorem ob_false : BitVec.ofBool false = 0#1 := rfl
theorem lit_eq (w : BitVec 32) : FloatOps.ofBits (F := Ideal) .f32 w = Ideal.ofBits .f32 w := rfl

theorem cmp_lt (x : EReal) (w : BitVec 32) : FloatOps.cmpf (F := Ideal) (φ := .f32) .olt x (FloatOps.ofBits (F := Ideal) .f32 w)
    = BitVec.ofBool (decide (x < Ideal.ofBits .f32 w)) := rfl

/-! ## The constants -/

theorem lit_zero : Ideal.ofBits .f32 0x00000000#32 = ((0 : ℝ) : EReal) := by
  rw [show (0x00000000#32 : BitVec 32) = wd 0 from rfl, ofBits_wd 0 (by omega)]; simp [pw]

theorem lit_one : Ideal.ofBits .f32 0x3F800000#32 = ((1 : ℝ) : EReal) := by
  rw [show (0x3F800000#32 : BitVec 32) = wd 127 from rfl, ofBits_wd 127 (by omega)]; simp [pw]

theorem lit_two : Ideal.ofBits .f32 0x40000000#32 = ((2 : ℝ) : EReal) := by
  rw [show (0x40000000#32 : BitVec 32) = wd 128 from rfl, ofBits_wd 128 (by omega)]; simp [pw]

theorem lit_lo : Ideal.ofBits .f32 0x00800000#32 = pw 1 := by
  rw [show (0x00800000#32 : BitVec 32) = wd 1 from rfl, ofBits_wd 1 (by omega)]

theorem lit_hi : Ideal.ofBits .f32 0x7F000000#32 = pw 254 := by
  rw [show (0x7F000000#32 : BitVec 32) = wd 254 from rfl, ofBits_wd 254 (by omega)]

theorem lit_127 : Ideal.ofBits .f32 0x42FE0000#32 = ((127 : ℝ) : EReal) := by
  have hu : Ideal.ofBits .f32 0x42FE0000#32 = Ideal.ieee 8 23 (0x42FE0000#32 : BitVec 32) := rfl
  have h1 : ((0x42FE0000#32 : BitVec 32).extractLsb' 31 1 == 1#1) = false := by decide +kernel
  have h2 : ((0x42FE0000#32 : BitVec 32).extractLsb' 23 8).toNat = 133 := by decide +kernel
  have h3 : ((0x42FE0000#32 : BitVec 32).extractLsb' 0 23).toNat = 8257536 := by decide +kernel
  rw [hu]
  unfold Ideal.ieee
  simp only [show 8 + 23 = 31 from rfl, h1, h2, h3]
  rw [if_neg (by norm_num), if_neg (by norm_num)]
  congr 1
  norm_num

/-! ## The exponent -/

theorem refE_trivial (x : EReal) (h : x < pw 1 ∨ pw 254 ≤ x) : refE x = ((0 : ℝ) : EReal) := by
  unfold refE refExp
  rw [lit_lo, lit_hi, lit_zero]
  rcases h with h | h
  · by_cases h' : pw 254 ≤ x <;> simp [h, h', Scalar.select, IntOp.ori]
  · by_cases h' : x < pw 1 <;> simp [h, h', Scalar.select, IntOp.ori]

theorem refE_log (x : EReal) (a : ℕ) (h1 : 1 ≤ a) (h2 : a ≤ 253) (h3 : pw a ≤ x) (h4 : x < pw (a + 1)) :
    refE x = ((((a : ℤ) - 126 : ℤ) : ℝ) : EReal) := by
  have c1 : ¬ x < pw 1 := not_lt.2 ((pw_mono h1).trans h3)
  have c2 : ¬ pw 254 ≤ x := not_le.2 (h4.trans_le (pw_mono (by omega)))
  unfold refE refExp
  rw [lit_lo, lit_hi, lit_zero, lit_two, lit_one]
  rw [show (BitVec.ofBool (decide (x < pw 1))) = 0#1 by simp [c1], show (BitVec.ofBool (decide (pw 254 ≤ x))) = 0#1 by simp [c2],
    show Scalar.select (IntOp.ori 0#1 0#1) = fun (_ b : EReal) => b from rfl]
  have ea : pw a = (((2 : ℝ) ^ ((a : ℤ) - 127) : ℝ) : EReal) := by rw [pw, if_neg (by omega), if_pos (by omega)]
  have eb : pw (a + 1) = (((2 : ℝ) ^ ((a : ℤ) - 126) : ℝ) : EReal) := by
    rw [pw, if_neg (by omega), if_pos (by omega)]
    congr 2
    push_cast
    ring
  rw [ea] at h3
  rw [eb] at h4
  have hx : x = ((x.toReal : ℝ) : EReal) :=
    (EReal.coe_toReal (ne_top_of_lt h4) (ne_of_gt (lt_of_lt_of_le (EReal.bot_lt_coe _) h3))).symm
  generalize x.toReal = y at hx
  subst hx
  have k1 := EReal.coe_le_coe_iff.1 h3
  have k2 := EReal.coe_lt_coe_iff.1 h4
  have hy : 0 < y := lt_of_lt_of_le (by positivity) k1
  have l2 : 0 < Real.log 2 := Real.log_pos (by norm_num)
  have e1 : Ideal.log ((y : ℝ) : EReal) = ((Real.log y : ℝ) : EReal) := by
    show (if y ≤ 0 then ⊥ else ((Real.log y : ℝ) : EReal)) = _
    rw [if_neg (not_le.2 hy)]
  have e2 : Ideal.log ((2 : ℝ) : EReal) = ((Real.log 2 : ℝ) : EReal) := by
    show (if (2 : ℝ) ≤ 0 then ⊥ else ((Real.log 2 : ℝ) : EReal)) = _
    rw [if_neg (by norm_num)]
  have e3 : Ideal.div ((Real.log y : ℝ) : EReal) ((Real.log 2 : ℝ) : EReal) = ((Real.log y / Real.log 2 : ℝ) : EReal) := by
    rw [Ideal.div, if_neg (by exact_mod_cast l2.ne'), ← EReal.coe_inv, ← EReal.coe_mul, div_eq_mul_inv]
  have e4 : ⌊Real.log y / Real.log 2⌋ = (a : ℤ) - 127 := by
    rw [Int.floor_eq_iff]
    constructor
    · rw [le_div_iff₀ l2, ← Real.log_zpow]
      exact Real.log_le_log (by positivity) k1
    · rw [div_lt_iff₀ l2, show (((a : ℤ) - 127 : ℤ) : ℝ) + 1 = (((a : ℤ) - 126 : ℤ) : ℝ) by push_cast; ring, ← Real.log_zpow]
      exact Real.log_lt_log hy k2
  rw [e1, e2, e3]
  show ((((⌊Real.log y / Real.log 2⌋ : ℤ) : ℝ)) : EReal) + ((1 : ℝ) : EReal) = _
  rw [e4, ← EReal.coe_add]
  congr 1
  push_cast
  ring

theorem pow_two (e : ℤ) : Ideal.pow ((2 : ℝ) : EReal) (((e : ℤ) : ℝ) : EReal) = (((2 : ℝ) ^ e : ℝ) : EReal) := by
  show ((Real.rpow 2 (e : ℝ) : ℝ) : EReal) = _
  congr 1
  exact Real.rpow_intCast 2 e

/-! ## The fields -/

theorem fields : ∀ a : Fin 254, 1 ≤ a.val → trivialBits (wd a.val) = 0#1 ∧ IntOp.addi (wd a.val) 8388608#32 = wd (a.val + 1) ∧
    IntOp.subi 2122317824#32 (wd a.val) = wd (253 - a.val) := by decide +kernel

theorem scale_trivial (b : BitVec 32) (h : trivialBits b = 1#1) :
    scaleOf b = ((1 : ℝ) : EReal) ∧ inverseOf b = ((1 : ℝ) : EReal) := by
  unfold scaleOf inverseOf
  rw [h, sel_one, sel_one, lit_eq, lit_one]
  exact ⟨rfl, rfl⟩

theorem ref_trivial (x : EReal) (h : x < pw 1 ∨ pw 254 ≤ x) :
    refScale x = ((1 : ℝ) : EReal) ∧ refInverse x = ((1 : ℝ) : EReal) := by
  have e := refE_trivial x h
  have p := pow_two 0
  rw [Int.cast_zero, zpow_zero] at p
  unfold refScale refInverse
  rw [e, lit_two, lit_127, lit_zero, ← EReal.coe_neg, neg_zero, p]
  refine ⟨rfl, ?_⟩
  rw [show (decide (((0 : ℝ) : EReal) < ((127 : ℝ) : EReal))) = true from decide_eq_true (by exact_mod_cast (by norm_num : (0 : ℝ) < 127)),
    ob_true, sel_one]

theorem ref_log (x : EReal) (a : ℕ) (h1 : 1 ≤ a) (h2 : a ≤ 253) (h3 : pw a ≤ x) (h4 : x < pw (a + 1)) :
    refScale x = pw (a + 1) ∧ refInverse x = pw (253 - a) := by
  have e := refE_log x a h1 h2 h3 h4
  obtain ⟨z, hz⟩ : ∃ z : ℤ, z = (a : ℤ) - 126 := ⟨_, rfl⟩
  rw [← hz] at e
  unfold refScale refInverse
  have q := pow_two (-z)
  rw [Int.cast_neg] at q
  rw [e, lit_two, lit_127, lit_zero, pow_two, ← EReal.coe_neg, q]
  refine ⟨?_, ?_⟩
  · rw [pw, if_neg (by omega), if_pos (by omega)]
    congr 2
    push_cast
    omega
  · by_cases h : a = 253
    · have hn : ¬ ((z : ℝ) : EReal) < ((127 : ℝ) : EReal) := by
        rw [EReal.coe_lt_coe_iff, not_lt]
        have : (127 : ℤ) ≤ z := by omega
        exact_mod_cast this
      rw [decide_eq_false hn, ob_false, sel_zero, h]
      simp [pw]
    · have hl : ((z : ℝ) : EReal) < ((127 : ℝ) : EReal) := by
        rw [EReal.coe_lt_coe_iff]
        have : z < (127 : ℤ) := by omega
        exact_mod_cast this
      rw [decide_eq_true hl, ob_true, sel_one, pw, if_neg (by omega), if_pos (by omega)]
      congr 2
      omega

/-- The scale and its inverse of a nonnegative value. -/
theorem scale_eq (x : EReal) (h0 : 0 ≤ x) : scaleOf (ebits x) = refScale x ∧ inverseOf (ebits x) = refInverse x := by
  have ec : FloatOps.cmpf (F := Ideal) (φ := .f32) .olt x (FloatOps.ofBits (F := Ideal) .f32 2130706432#32)
      = BitVec.ofBool (decide (x < pw 254)) := by
    rw [← lit_hi]
    exact cmp_lt x _
  by_cases h : x < pw 254
  · have eb : ebits x = sstep x (sfirst x) 8388608#32 := by
      unfold ebits
      rw [ec, decide_eq_true h, ob_true, selw_one]
    obtain ⟨a, ha, h1, h2, h3⟩ := search_at x h0 (h.trans_le le_top)
    have ha' : a ≤ 253 := by
      by_contra hn
      exact absurd (h.trans_le (pw_mono (by omega : 254 ≤ a))) (not_lt.2 h2)
    rw [eb, ha]
    rcases Nat.eq_zero_or_pos a with h' | h'
    · subst h'
      obtain ⟨s1, s2⟩ := scale_trivial (wd 0) (by decide +kernel)
      obtain ⟨r1, r2⟩ := ref_trivial x (Or.inl h3)
      exact ⟨s1.trans r1.symm, s2.trans r2.symm⟩
    · obtain ⟨f1, f2, f3⟩ := fields ⟨a, by omega⟩ h'
      obtain ⟨r1, r2⟩ := ref_log x a h' ha' h2 h3
      unfold scaleOf inverseOf
      rw [f1, f2, f3, r1, r2, sel_zero, sel_zero, lit_eq, lit_eq]
      exact ⟨ofBits_wd (a + 1) (by omega), ofBits_wd (253 - a) (by omega)⟩
  · have eb : ebits x = 2139095040#32 := by
      unfold ebits
      rw [ec, decide_eq_false h, ob_false, selw_zero]
    obtain ⟨s1, s2⟩ := scale_trivial (2139095040#32) (by decide +kernel)
    obtain ⟨r1, r2⟩ := ref_trivial x (Or.inr (not_lt.1 h))
    rw [eb]
    exact ⟨s1.trans r1.symm, s2.trans r2.symm⟩

end Cert.ReferenceIdeal.Hand

end
-- ==== Proof.Join.lean ====
/- The reference's results in the words of the kernel's: each of the seven, at an index. -/
module

public import proofs.«01_k».proof.Proof.QuantRef

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe

variable (m : (ℓ : Loc nD τ sig) → Buf (Elt Ideal) ℓ) (c : Dev nD)

/-! ## Rows of the arrays as rows of the blocks -/

variable (a : Fin 4) (b : Fin 4096) (j : Fin 8192) (t p : ℕ)

/-- The input in the words of a block. -/
theorem x_blk (h : 128 * t + p = a.val * 4096 + b.val) : (argsOf m c).x (ix3 a b j) = ((argsOf m c).blk t).x p j.val :=
  rows_eq _ _ _ _ _ _ (by omega) (by omega) rfl

/-- The reciprocal norm in the words of a block. -/
theorem r_blk (h : 128 * t + p = a.val * 4096 + b.val) : rT m c (ix3 a b j) = ((argsOf m c).blk t).r p :=
  (rT_at m c a b j).trans ((argsOf m c).rs_eq _ _ _ (by omega) (by omega))

/-- The sum of the gradients in the words of a block. -/
theorem dN_blk (h : 128 * t + p = a.val * 4096 + b.val) : dNT m c (ix3 a b j) = ((argsOf m c).blk t).n p j.val := by
  rw [dNT_at, rows_eq (argsOf m c).q (128 * t + p) j.val a b j (by omega) (by omega) rfl,
    rows_eq (argsOf m c).k (128 * t + p) j.val a b j (by omega) (by omega) rfl,
    rows_eq (argsOf m c).v (128 * t + p) j.val a b j (by omega) (by omega) rfl]
  rfl

/-- The gradient of the normalised input in the words of a block. -/
theorem dxn_blk (h : 128 * t + p = a.val * 4096 + b.val) :
    dxnT m c (ix3 a b j) = ((argsOf m c).blk t).n p j.val * ((argsOf m c).blk t).γ j.val := by
  rw [dxnT_at, dN_blk m c a b j t p h, gT_at, (argsOf m c).γ_eq]
  rfl

/-- The normalised input in the words of a block. -/
theorem xhat_blk (h : 128 * t + p = a.val * 4096 + b.val) :
    xhatT m c (ix3 a b j) = ((argsOf m c).blk t).x p j.val * ((argsOf m c).blk t).r p := by
  rw [xhatT_at, x_blk m c a b j t p h, r_blk m c a b j t p h]

/-- The dot product in the words of a block. -/
theorem dot_blk (h : 128 * t + p = a.val * 4096 + b.val) : dotT m c (ix2 a b) = ((argsOf m c).blk t).dot p := by
  rw [dotT_at]
  refine Finset.sum_congr rfl fun k _ => ?_
  rw [dxn_blk m c a b k t p h, xhat_blk m c a b k t p h]

/-- The gradient, under the condition on the reciprocal norms. -/
theorem dxt_blk (hr : ∀ i, 0 ≤ (argsOf m c).rstd i ∧ (argsOf m c).rstd i < ⊤) (h : 128 * t + p = a.val * 4096 + b.val) :
    dxtT m c (ix3 a b j) = ((argsOf m c).blk t).dx p j.val := by
  rw [dxtT_at, dxn_blk m c a b j t p h, xhat_blk m c a b j t p h, r_blk m c a b j t p h, dot_blk m c a b t p h,
    rows_eq (argsOf m c).dr (128 * t + p) j.val a b j (by omega) (by omega) rfl]
  exact ((argsOf m c).blk t).plainDx_eq p j.val (hr _).1 (hr _).2.ne

/-- The first result: the gradient of the input. -/
theorem gdx_join (hr : ∀ i, 0 ≤ (argsOf m c).rstd i ∧ (argsOf m c).rstd i < ⊤) :
    dxtT m c (ix3 a b j) = (argsOf m c).gdx (a.val * 4096 + b.val) j.val :=
  dxt_blk m c a b j _ _ hr (Nat.div_add_mod _ _)

/-! ## The weight's gradient -/

/-- The third result: the parts of the gradient of the weight. -/
theorem dgp_join (n : Fin 32) : partT m c (ix3 a n j) = (argsOf m c).dgp a.val n.val j.val := by
  rw [partT_at]
  unfold Args.dgp
  rw [Blk.part_eq]
  refine Finset.sum_congr rfl fun l _ => ?_
  rw [dN_blk m c a _ j (32 * a.val + n.val) l.val (by dsimp only; omega), xhat_blk m c a _ j (32 * a.val + n.val) l.val (by dsimp only; omega)]

/-- The second result: the gradient of the weight, the sum of 128 parts. -/
theorem dg_join : (∑ a : Fin 4, ∑ n : Fin 32, partT m c (ix3 a n j)) = (argsOf m c).dg j.val := by
  unfold Args.dg Args.dgammaTo
  rw [Finset.sum_range (fun s => ((argsOf m c).blk s).part j.val)]
  refine Eq.symm ((sum_split 4 32 (fun s => ((argsOf m c).blk s).part j.val)).trans ?_)
  refine Finset.sum_congr rfl fun a _ => Finset.sum_congr rfl fun n _ => ?_
  rw [dgp_join]
  rfl

/-! ## The quantised gradient -/

/-- The greatest magnitude of 128 columns of a row. -/
theorem rowM_join (hr : ∀ i, 0 ≤ (argsOf m c).rstd i ∧ (argsOf m c).rstd i < ⊤) (u : ℕ) (hu : u < 64) :
    Finset.fold max (Ideal.ofBits .f32 0xFF800000#32) (fun l : Fin 128 => (FloatOps.absf (dxtT m c (ix3 a b ⟨u * 128 + l.val, by omega⟩)) : EReal)) Finset.univ =
      Finset.univ.fold max (Ideal.ofBits .f32 0xFF800000#32)
        (fun l : Fin 128 => ((argsOf m c).blk ((a.val * 4096 + b.val) / 128)).ab ((a.val * 4096 + b.val) % 128) (128 * u + l.val)) := by
  congr 1
  funext l
  rw [dxt_blk m c a b _ _ _ hr (Nat.div_add_mod (a.val * 4096 + b.val) 128)]
  unfold Blk.ab
  dsimp only
  rw [Nat.mul_comm u 128]

/-- The greatest magnitude of a column of a block. -/
theorem colM_join (hr : ∀ i, 0 ≤ (argsOf m c).rstd i ∧ (argsOf m c).rstd i < ⊤) (n : ℕ) (hn : n < 32) :
    Finset.fold max (Ideal.ofBits .f32 0xFF800000#32) (fun l : Fin 128 => (FloatOps.absf (dxtT m c (ix3 a ⟨n * 128 + l.val, by omega⟩ j)) : EReal)) Finset.univ =
      Finset.univ.fold max (Ideal.ofBits .f32 0xFF800000#32) (fun s : Fin 8 => ((argsOf m c).blk (32 * a.val + n)).cmUpTo 16 s.val j.val) := by
  rw [Blk.colMax_eq]
  congr 1
  funext l
  rw [dxt_blk m c a _ j (32 * a.val + n) l.val hr (by dsimp only; omega)]
  rfl

/-- The fifth result: the scales of the rows. -/
theorem rowScale_join (hr : ∀ i, 0 ≤ (argsOf m c).rstd i ∧ (argsOf m c).rstd i < ⊤) (u : Fin 64) :
    rowScaleT (dxtT m c) (ix3 a b u) = (argsOf m c).rscale (a.val * 4096 + b.val) u.val := by
  rw [rowScaleT_at, ← (scale_eq _ (Blk.fold_nonneg _ fun l => absf_nonneg _)).1, rowM_join m c a b hr u.val u.isLt]
  rfl

/-- The seventh result: the scales of the columns. -/
theorem colScale_join (hr : ∀ i, 0 ≤ (argsOf m c).rstd i ∧ (argsOf m c).rstd i < ⊤) (n : Fin 32) :
    colScaleT (dxtT m c) (ix3 a n j) = (argsOf m c).cs a.val n.val j.val := by
  rw [colScaleT_at, ← (scale_eq _ (Blk.fold_nonneg _ fun l => absf_nonneg _)).1, colM_join m c a j hr n.val n.isLt]
  rfl

/-- The fourth result: the codes of the rows. -/
theorem rowCode_join (hr : ∀ i, 0 ≤ (argsOf m c).rstd i ∧ (argsOf m c).rstd i < ⊤) :
    rowCodeT (dxtT m c) (ix3 a b j) = (argsOf m c).rc (a.val * 4096 + b.val) j.val := by
  rw [rowCodeT_at, ← (scale_eq _ (Blk.fold_nonneg _ fun l => absf_nonneg _)).2, rowM_join m c a b hr (j.val / 128) (by omega),
    gdx_join m c a b j hr]
  rfl

/-- The sixth result: the codes of the columns. -/
theorem colCode_join (hr : ∀ i, 0 ≤ (argsOf m c).rstd i ∧ (argsOf m c).rstd i < ⊤) :
    colCodeT (dxtT m c) (ix3 a b j) = (argsOf m c).cc (a.val * 4096 + b.val) j.val := by
  rw [colCodeT_at, ← (scale_eq _ (Blk.fold_nonneg _ fun l => absf_nonneg _)).2, colM_join m c a j hr (b.val / 128) (by omega),
    gdx_join m c a b j hr]
  unfold Args.cc
  rw [show (a.val * 4096 + b.val) / 128 = 32 * a.val + b.val / 128 by omega]
  rfl

end Cert.ReferenceIdeal.Hand

end
-- ==== Proof.RefRun.lean ====
/- The results of the reference's run, in the words of the kernel's. -/
module

public import proofs.«01_k».proof.Proof.Join

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.Tactic

variable (m : (ℓ : Loc nD τ sig) → Buf (Elt Ideal) ℓ) (c : Dev nD)

/-- What the condition on the arguments says of the reciprocal norms. -/
abbrev Finite (A : Args) : Prop := ∀ i, 0 ≤ A.rstd i ∧ A.rstd i < ⊤

/-- The first result as a whole array; so the six that follow. -/
theorem dx_fn (hr : Finite (argsOf m c)) : dxtT m c = fun i => (argsOf m c).gdx ((i 0).val * 4096 + (i 1).val) (i 2).val := by
  funext i
  rw [eq_ix3 i]
  exact gdx_join m c _ _ _ hr

theorem dgp_fn : partT m c = fun i => (argsOf m c).dgp (i 0).val (i 1).val (i 2).val := by
  funext i
  rw [eq_ix3 i]
  exact dgp_join m c _ _ _

theorem dg_fn : Host.reduceAdd (partT m c) (constant S_ .f32 0x00000000#32) reducesTo_S4x32x8192_S8192_d0_1 h_S_ = fun i => (argsOf m c).dg (i 0).val := by
  funext i
  rw [eq_ix1 i]
  exact (sum01_at _ _).trans (dg_join m c _)

theorem rc_fn (hr : Finite (argsOf m c)) : res_main_v91 m c = fun i => (argsOf m c).rc ((i 0).val * 4096 + (i 1).val) (i 2).val := by
  rw [res91]
  funext i
  rw [eq_ix3 i]
  exact rowCode_join m c _ _ _ hr

theorem rs_fn (hr : Finite (argsOf m c)) : res_main_v92 m c = fun i => (argsOf m c).rscale ((i 0).val * 4096 + (i 1).val) (i 2).val := by
  rw [res92]
  funext i
  rw [eq_ix3 i]
  exact rowScale_join m c _ _ hr _

theorem cc_fn (hr : Finite (argsOf m c)) : res_main_v93 m c = fun i => (argsOf m c).cc ((i 0).val * 4096 + (i 1).val) (i 2).val := by
  rw [res93]
  funext i
  rw [eq_ix3 i]
  exact colCode_join m c _ _ _ hr

theorem cs_fn (hr : Finite (argsOf m c)) : res_main_v94 m c = fun i => (argsOf m c).cs (i 0).val (i 1).val (i 2).val := by
  rw [res94]
  funext i
  rw [eq_ix3 i]
  exact colScale_join m c _ _ hr _

/-- The reference's run. -/
theorem run_results (ρ : Dev nD → PrngReg) (hr : ∀ c, Finite (argsOf m c)) :
    θ_run defs (onTc (τ := τ) (main (F := Ideal))) ⟨m, fun _ => 0, ρ⟩ fun r => ∀ c : Dev nD,
      r.2.mem ((c.tc : Thread nD τ).loc main_v90) = (fun i => (argsOf m c).gdx ((i 0).val * 4096 + (i 1).val) (i 2).val)
      ∧ r.2.mem ((c.tc : Thread nD τ).loc main_v25) = (fun i => (argsOf m c).dg (i 0).val)
      ∧ r.2.mem ((c.tc : Thread nD τ).loc main_v24) = (fun i => (argsOf m c).dgp (i 0).val (i 1).val (i 2).val)
      ∧ r.2.mem ((c.tc : Thread nD τ).loc main_v91) = (fun i => (argsOf m c).rc ((i 0).val * 4096 + (i 1).val) (i 2).val)
      ∧ r.2.mem ((c.tc : Thread nD τ).loc main_v92) = (fun i => (argsOf m c).rscale ((i 0).val * 4096 + (i 1).val) (i 2).val)
      ∧ r.2.mem ((c.tc : Thread nD τ).loc main_v93) = (fun i => (argsOf m c).cc ((i 0).val * 4096 + (i 1).val) (i 2).val)
      ∧ r.2.mem ((c.tc : Thread nD τ).loc main_v94) = (fun i => (argsOf m c).cs (i 0).val (i 1).val (i 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono ?_ (Value.run (F := Ideal) m ρ)
  intro r h c
  obtain ⟨e0, e1, e2, e3, e4, e5, e6, h'⟩ := h c
  refine ⟨?_, ?_, ?_, e3.trans (rc_fn m c (hr c)), e4.trans (rs_fn m c (hr c)), e5.trans (cc_fn m c (hr c)), e6.trans (cs_fn m c (hr c)), h'⟩
  · exact e0.trans (dx_fn m c (hr c))
  · exact e1.trans (dg_fn m c)
  · exact e2.trans (dgp_fn m c)

end Cert.ReferenceIdeal.Hand

end
-- ==== Proof.Algebraic.lean ====
/- The value claim: over the extended reals the kernel and the reference leave the same seven results. -/
module

public import proofs.«01_k».proof.Proof.Frames
public import proofs.«01_k».proof.Proof.RefRun

@[expose] public section

set_option maxRecDepth 16384

noncomputable section

open Idealize.ShloMosaic Cert.Spec

namespace Cert.Proof

/-- Two ordered compares joined by `and` hold: both hold. -/
theorem and_bits (p q : Prop) [Decidable p] [Decidable q] (h : BitVec.ofBool (decide p) &&& BitVec.ofBool (decide q) = 1#1) : p ∧ q := by
  by_cases hp : p <;> by_cases hq : q <;> simp_all

/-- The two compares of the condition, read as inequalities. -/
theorem cmp_pair (x : EReal) (v w : BitVec 32)
    (h : FloatOps.cmpf (F := Ideal) (φ := .f32) .oge x (FloatOps.ofBits (F := Ideal) .f32 v) &&&
      FloatOps.cmpf (F := Ideal) (φ := .f32) .olt x (FloatOps.ofBits (F := Ideal) .f32 w) = 1#1) :
    Ideal.ofBits .f32 v ≤ x ∧ x < Ideal.ofBits .f32 w :=
  and_bits _ _ h

/-- The bound of the condition is the top of the extended reals. -/
theorem lit_inf : Ideal.ofBits .f32 0x7F800000#32 = ⊤ := by
  rw [show (0x7F800000#32 : BitVec 32) = wd 255 from rfl, ofBits_wd 255 (by omega)]; simp [pw]

/-- What the condition says of the reciprocal norms. -/
theorem pre_reads [Cert.Pre_rstd_nonneg_finite.Facts] (a0 : FVec Ideal ⟨3, ![4, 4096, 8192]⟩ .bf16) (a1 : FVec Ideal ⟨2, ![4, 4096]⟩ .f32)
    (a2 : FVec Ideal ⟨1, ![8192]⟩ .f32) (a3 a4 a5 a6 : FVec Ideal ⟨3, ![4, 4096, 8192]⟩ .bf16)
    (h : Cert.Pre_rstd_nonneg_finite.fn (F := Ideal) a0 a1 a2 a3 a4 a5 a6 = fun _ => 1#1) (i : Shape.Idx ⟨2, ![4, 4096]⟩) :
    0 ≤ (a1 i : EReal) ∧ (a1 i : EReal) < ⊤ := by
  have e := cmp_pair (a1 i) 0x00000000#32 0x7F800000#32 (congrFun h i)
  rw [lit_inf, Cert.ReferenceIdeal.Hand.lit_zero] at e
  exact ⟨by simpa using e.1, e.2⟩

/-- Memories that agree on the arguments give the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.argsOf m' c = Cert.KernelIdeal.Hand.argsOf m c := by
  unfold Cert.ReferenceIdeal.Hand.argsOf Cert.KernelIdeal.Hand.argsOf
  exact Args.mk.injEq .. ▸ ⟨h0, h1, h2, h3, h4, h5, h6⟩

/-- All seven results. -/
theorem algebraic : Cert.algebraic_KernelIdeal_ReferenceIdeal_pre_rstd_nonneg_finite (hPre_rstd_nonneg_finite := facts_pre) := by
  intro m g m' g' hpre hargs
  have hA : ∀ c, Cert.ReferenceIdeal.Hand.argsOf m' c = Cert.KernelIdeal.Hand.argsOf m c := fun c =>
    args_agree m m' c (hargs c).1 (hargs c).2.1 (hargs c).2.2.1 (hargs c).2.2.2.1 (hargs c).2.2.2.2.1 (hargs c).2.2.2.2.2.1 (hargs c).2.2.2.2.2.2
  have hr : ∀ c, Cert.ReferenceIdeal.Hand.Finite (Cert.ReferenceIdeal.Hand.argsOf m' c) := by
    intro c
    rw [hA c]
    exact fun i => letI := facts_pre; pre_reads _ _ _ _ _ _ _ (hpre c) i
  have href := Cert.ReferenceIdeal.Hand.run_results m' g' hr
  simp only [hA] at href
  exact ⟨_, _, _, _, _, _, _, (θ_run Cert.KernelIdeal.defs _ _).mono (fun r h => h.1) (Cert.KernelIdeal.Hand.run_results m g), href⟩

end Cert.Proof

end
-- ==== Proof.lean ====
/- The proof of the certificate's claim: the witnesses of the facts the programs state, the frames, and the value claim. -/
module

public import proofs.«01_k».proof.Defs
public import proofs.«01_k».proof.Proof.Algebraic

@[expose] public section

noncomputable section

/-- Everything the certificate claims. A frame under the condition is the frame without it. -/
theorem Cert.Proof.claim : Cert.Claim :=
  ⟨Cert.Kernel.Gen.facts, Cert.KernelIdeal.Gen.facts, Cert.ReferenceIdeal.Gen.facts, Cert.Proof.facts_pre,
    Cert.Proof.frame_kernel, Cert.Proof.frame_ideal, fun m g _ => Cert.Proof.frame_ideal m g trivial,
    Cert.Proof.frame_reference, fun m g _ => Cert.Proof.frame_reference m g trivial, trivial, Cert.Proof.algebraic⟩

end
